-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v60_0)) (v1 : (c : Dev Cert.KernelIdeal.nD) → Buf (Elt Ideal) ((c.tc : Thread Cert.KernelIdeal.nD Cert.KernelIdeal.τ).loc Cert.KernelIdeal.main_v60_1)) (v2 : (c : Dev Cert.KernelIdeal.nD) → Buf (Elt Ideal) ((c.tc : Thread Cert.KernelIdeal.nD Cert.KernelIdeal.τ).loc Cert.KernelIdeal.main_v60_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60_0) = v0 c
          ∧ r.2.mem ((c.tc : Thread Cert.KernelIdeal.nD Cert.KernelIdeal.τ).loc Cert.KernelIdeal.main_v60_1) = v1 c
          ∧ r.2.mem ((c.tc : Thread Cert.KernelIdeal.nD Cert.KernelIdeal.τ).loc Cert.KernelIdeal.main_v60_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v227) = v0 c
          ∧ r.2.mem ((c.tc : Thread Cert.ReferenceIdeal.nD Cert.ReferenceIdeal.τ).loc Cert.ReferenceIdeal.main_v228) = v1 c
          ∧ r.2.mem ((c.tc : Thread Cert.ReferenceIdeal.nD Cert.ReferenceIdeal.τ).loc Cert.ReferenceIdeal.main_v231) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8192x3 : Shape := ⟨2, ![8192, 3]⟩
abbrev S2048x3 : Shape := ⟨2, ![2048, 3]⟩
abbrev S_ : Shape := ⟨0, ![]⟩

class Facts : Prop where
  bcast_S_S8192x3 : S_.BroadcastsInDim S8192x3 (![] : Fin 0 → Fin S8192x3.rank)
  reducesTo_S8192x3_S_d0_1 : S8192x3.ReducesTo [0, 1] S_
  h_S_ : 0 < S_.numel
  bcast_S_S2048x3 : S_.BroadcastsInDim S2048x3 (![] : Fin 0 → Fin S2048x3.rank)
  reducesTo_S2048x3_S_d0_1 : S2048x3.ReducesTo [0, 1] S_

variable [Facts]

def fn_part1 {F : FTy → Type} [FloatOps F] (main_v13 : IVec S_ 1) (main_v16 : IVec S2048x3 1) : IVec S_ 1 :=
  let main_c_5 : IVec S_ 1 := constantI S_ 1 1#1
  let main_v17 : IVec S_ 1 := (fun x v => Host.reduce IntOp.andi x v reducesTo_S2048x3_S_d0_1 h_S_) main_v16 main_c_5
  let main_v18 : IVec S_ 1 := andi main_v13 main_v17
  main_v18

def fn {F : FTy → Type} [FloatOps F] (main_arg0 : FVec F S8192x3 .f32) (main_arg1 : FVec F S2048x3 .f32) (main_arg2 : FVec F S2048x3 .f32) (main_arg3 : FVec F S2048x3 .f32) : IVec S_ 1 :=
  let main_v0 : FVec F S8192x3 .f32 := Host.absf main_arg0
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  let main_c : IVec S_ 1 := constantI S_ 1 1#1
  let main_v3 : IVec S_ 1 := (fun x v => Host.reduce IntOp.andi x v reducesTo_S8192x3_S_d0_1 h_S_) main_v2 main_c
  let main_v4 : FVec F S2048x3 .f32 := Host.absf main_arg1
  let main_cst_0 : FVec F S_ .f32 := constant S_ .f32 0x7F800000#32
  let main_v5 : FVec F S2048x3 .f32 := broadcastInDim S2048x3 ![] bcast_S_S2048x3 main_cst_0
  let main_v6 : IVec S2048x3 1 := cmpf .olt main_v4 main_v5
  let main_c_1 : IVec S_ 1 := constantI S_ 1 1#1
  let main_v7 : IVec S_ 1 := (fun x v => Host.reduce IntOp.andi x v reducesTo_S2048x3_S_d0_1 h_S_) main_v6 main_c_1
  let main_v8 : IVec S_ 1 := andi main_v3 main_v7
  let main_v9 : FVec F S2048x3 .f32 := Host.absf main_arg2
  let main_cst_2 : FVec F S_ .f32 := constant S_ .f32 0x7F800000#32
  let main_v10 : FVec F S2048x3 .f32 := broadcastInDim S2048x3 ![] bcast_S_S2048x3 main_cst_2
  let main_v11 : IVec S2048x3 1 := cmpf .olt main_v9 main_v10
  let main_c_3 : IVec S_ 1 := constantI S_ 1 1#1
  let main_v12 : IVec S_ 1 := (fun x v => Host.reduce IntOp.andi x v reducesTo_S2048x3_S_d0_1 h_S_) main_v11 main_c_3
  let main_v13 : IVec S_ 1 := andi main_v8 main_v12
  let main_v14 : FVec F S2048x3 .f32 := Host.absf main_arg3
  let main_cst_4 : FVec F S_ .f32 := constant S_ .f32 0x7F800000#32
  let main_v15 : FVec F S2048x3 .f32 := broadcastInDim S2048x3 ![] bcast_S_S2048x3 main_cst_4
  let main_v16 : IVec S2048x3 1 := cmpf .olt main_v14 main_v15
  fn_part1 (F := F) main_v13 main_v16
-- ==== Kernel.lean ====
abbrev S8192x3 : Shape := ⟨2, ![8192, 3]⟩
abbrev S2048x3 : Shape := ⟨2, ![2048, 3]⟩
abbrev S_ : Shape := ⟨0, ![]⟩
abbrev S2048 : Shape := ⟨1, ![2048]⟩
abbrev S1x2048 : Shape := ⟨2, ![1, 2048]⟩
abbrev S13x2048 : Shape := ⟨2, ![13, 2048]⟩
abbrev S8192 : Shape := ⟨1, ![8192]⟩
abbrev S8192x1 : Shape := ⟨2, ![8192, 1]⟩
abbrev S3x2048 : Shape := ⟨2, ![3, 2048]⟩
abbrev S3x10240 : Shape := ⟨2, ![3, 10240]⟩
abbrev S256x3 : Shape := ⟨2, ![256, 3]⟩
abbrev S256x1 : Shape := ⟨2, ![256, 1]⟩
abbrev S256 : Shape := ⟨1, ![256]⟩
abbrev S256x10240 : Shape := ⟨2, ![256, 10240]⟩
abbrev S256x2048 : Shape := ⟨2, ![256, 2048]⟩

abbrev nBuf : Space → Nat
  | .hbm => 84
  | .vmem => 12
  | .smem => 0
  | _ => 0

abbrev bufTy : (tb : Table) → Fin (tcTables nBuf tb) → BufTy
  | .hbm, ⟨0, _⟩ => ⟨S8192x3, .f32⟩
  | .hbm, ⟨1, _⟩ => ⟨S2048x3, .f32⟩
  | .hbm, ⟨2, _⟩ => ⟨S2048x3, .f32⟩
  | .hbm, ⟨3, _⟩ => ⟨S2048x3, .f32⟩
  | .hbm, ⟨4, _⟩ => ⟨S2048x3, .f32⟩
  | .hbm, ⟨5, _⟩ => ⟨S2048x3, .f32⟩
  | .hbm, ⟨6, _⟩ => ⟨S2048x3, .f32⟩
  | .hbm, ⟨7, _⟩ => ⟨S2048x3, .f32⟩
  | .hbm, ⟨8, _⟩ => ⟨S_, .f32⟩
  | .hbm, ⟨9, _⟩ => ⟨S2048, .f32⟩
  | .hbm, ⟨10, _⟩ => ⟨S2048x3, .f32⟩
  | .hbm, ⟨11, _⟩ => ⟨S_, .f32⟩
  | .hbm, ⟨12, _⟩ => ⟨S2048, .f32⟩
  | .hbm, ⟨13, _⟩ => ⟨S2048x3, .f32⟩
  | .hbm, ⟨14, _⟩ => ⟨S_, .f32⟩
  | .hbm, ⟨15, _⟩ => ⟨S2048, .f32⟩
  | .hbm, ⟨16, _⟩ => ⟨S2048x3, .f32⟩
  | .hbm, ⟨17, _⟩ => ⟨S_, .f32⟩
  | .hbm, ⟨18, _⟩ => ⟨S2048, .f32⟩
  | .hbm, ⟨19, _⟩ => ⟨S2048x3, .f32⟩
  | .hbm, ⟨20, _⟩ => ⟨S_, .f32⟩
  | .hbm, ⟨21, _⟩ => ⟨S2048, .f32⟩
  | .hbm, ⟨22, _⟩ => ⟨S2048x3, .f32⟩
  | .hbm, ⟨23, _⟩ => ⟨S_, .f32⟩
  | .hbm, ⟨24, _⟩ => ⟨S2048, .f32⟩
  | .hbm, ⟨25, _⟩ => ⟨S2048x3, .f32⟩
  | .hbm, ⟨26, _⟩ => ⟨S_, .f32⟩
  | .hbm, ⟨27, _⟩ => ⟨S2048, .f32⟩
  | .hbm, ⟨28, _⟩ => ⟨S2048x3, .f32⟩
  | .hbm, ⟨29, _⟩ => ⟨S_, .f32⟩
  | .hbm, ⟨30, _⟩ => ⟨S2048, .f32⟩
  | .hbm, ⟨31, _⟩ => ⟨S2048x3, .f32⟩
  | .hbm, ⟨32, _⟩ => ⟨S_, .f32⟩
  | .hbm, ⟨33, _⟩ => ⟨S2048, .f32⟩
  | .hbm, ⟨34, _⟩ => ⟨S2048x3, .f32⟩
  | .hbm, ⟨35, _⟩ => ⟨S_, .f32⟩
  | .hbm, ⟨36, _⟩ => ⟨S2048, .f32⟩
  | .hbm, ⟨37, _⟩ => ⟨S2048x3, .f32⟩
  | .hbm, ⟨38, _⟩ => ⟨S_, .f32⟩
  | .hbm, ⟨39, _⟩ => ⟨S2048, .f32⟩
  | .hbm, ⟨40, _⟩ => ⟨S2048x3, .f32⟩
  | .hbm, ⟨41, _⟩ => ⟨S_, .f32⟩
  | .hbm, ⟨42, _⟩ => ⟨S2048, .f32⟩
  | .hbm, ⟨43, _⟩ => ⟨S2048x3, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S1x2048, .f32⟩
  | .hbm, ⟨48, _⟩ => ⟨S1x2048, .f32⟩
  | .hbm, ⟨49, _⟩ => ⟨S1x2048, .f32⟩
  | .hbm, ⟨50, _⟩ => ⟨S1x2048, .f32⟩
  | .hbm, ⟨51, _⟩ => ⟨S1x2048, .f32⟩
  | .hbm, ⟨52, _⟩ => ⟨S1x2048, .f32⟩
  | .hbm, ⟨53, _⟩ => ⟨S1x2048, .f32⟩
  | .hbm, ⟨54, _⟩ => ⟨S1x2048, .f32⟩
  | .hbm, ⟨55, _⟩ => ⟨S1x2048, .f32⟩
  | .hbm, ⟨56, _⟩ => ⟨S1x2048, .f32⟩
  | .hbm, ⟨57, _⟩ => ⟨S1x2048, .f32⟩
  | .hbm, ⟨58, _⟩ => ⟨S1x2048, .f32⟩
  | .hbm, ⟨59, _⟩ => ⟨S13x2048, .f32⟩
  | .hbm, ⟨60, _⟩ => ⟨S8192x3, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S3x2048, .f32⟩
  | .hbm, ⟨65, _⟩ => ⟨S3x2048, .f32⟩
  | .hbm, ⟨66, _⟩ => ⟨S3x2048, .f32⟩
  | .hbm, ⟨67, _⟩ => ⟨S_, .f32⟩
  | .hbm, ⟨68, _⟩ => ⟨S3x2048, .f32⟩
  | .hbm, ⟨69, _⟩ => ⟨S3x2048, .f32⟩
  | .hbm, ⟨70, _⟩ => ⟨S3x2048, .f32⟩
  | .hbm, ⟨71, _⟩ => ⟨S_, .f32⟩
  | .hbm, ⟨72, _⟩ => ⟨S3x2048, .f32⟩
  | .hbm, ⟨73, _⟩ => ⟨S3x2048, .f32⟩
  | .hbm, ⟨74, _⟩ => ⟨S3x2048, .f32⟩
  | .hbm, ⟨75, _⟩ => ⟨S_, .f32⟩
  | .hbm, ⟨76, _⟩ => ⟨S3x2048, .f32⟩
  | .hbm, ⟨77, _⟩ => ⟨S3x2048, .f32⟩
  | .hbm, ⟨78, _⟩ => ⟨S3x10240, .f32⟩
  | .hbm, ⟨79, _⟩ => ⟨S8192x3, .bf16⟩
  | .hbm, ⟨80, _⟩ => ⟨S3x10240, .bf16⟩
  | .hbm, ⟨81, _⟩ => ⟨S8192, .f32⟩
  | .hbm, ⟨82, _⟩ => ⟨S8192, .i32⟩
  | .hbm, ⟨83, _⟩ => ⟨S8192, .i32⟩
  | .local _ .vmem, ⟨0, _⟩ => ⟨S256x3, .bf16⟩
  | .local _ .vmem, ⟨1, _⟩ => ⟨S256x3, .bf16⟩
  | .local _ .vmem, ⟨2, _⟩ => ⟨S3x10240, .bf16⟩
  | .local _ .vmem, ⟨3, _⟩ => ⟨S13x2048, .f32⟩
  | .local _ .vmem, ⟨4, _⟩ => ⟨S256x1, .f32⟩
  | .local _ .vmem, ⟨5, _⟩ => ⟨S256x1, .f32⟩
  | .local _ .vmem, ⟨6, _⟩ => ⟨S256, .f32⟩
  | .local _ .vmem, ⟨7, _⟩ => ⟨S256, .f32⟩
  | .local _ .vmem, ⟨8, _⟩ => ⟨S256, .i32⟩
  | .local _ .vmem, ⟨9, _⟩ => ⟨S256, .i32⟩
  | .local _ .vmem, ⟨10, _⟩ => ⟨S256, .i32⟩
  | .local _ .vmem, ⟨11, _⟩ => ⟨S256, .i32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩
abbrev main_cst_9 : Ref sig .tc := ⟨.hbm, 38, rfl⟩
abbrev main_v24 : Ref sig .tc := ⟨.hbm, 39, rfl⟩
abbrev main_v25 : Ref sig .tc := ⟨.hbm, 40, rfl⟩
abbrev main_cst_10 : Ref sig .tc := ⟨.hbm, 41, rfl⟩
abbrev main_v26 : Ref sig .tc := ⟨.hbm, 42, rfl⟩
abbrev main_v27 : Ref sig .tc := ⟨.hbm, 43, rfl⟩
abbrev main_cst_11 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_12 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_13 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_14 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_15 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60_0 : Ref sig .tc := ⟨.hbm, 81, rfl⟩
abbrev main_v60_1 : Ref sig .tc := ⟨.hbm, 82, rfl⟩
abbrev main_v60_2 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x3 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x10240 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S13x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8192x3 : Shape := ⟨2, ![8192, 3]⟩
abbrev S2048x3 : Shape := ⟨2, ![2048, 3]⟩
abbrev S_ : Shape := ⟨0, ![]⟩
abbrev S2048 : Shape := ⟨1, ![2048]⟩
abbrev S3x2048 : Shape := ⟨2, ![3, 2048]⟩
abbrev S8192x2048 : Shape := ⟨2, ![8192, 2048]⟩
abbrev S1x2048 : Shape := ⟨2, ![1, 2048]⟩
abbrev S8192 : Shape := ⟨1, ![8192]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 343
  | .vmem => 0
  | .smem => 0
  | _ => 0

abbrev hbmTy0_0 (i : Nat) : BufTy := match i % 128 with
  | 0 => ⟨S8192x3, .f32⟩
  | 1 => ⟨S2048x3, .f32⟩
  | 2 => ⟨S2048x3, .f32⟩
  | 3 => ⟨S2048x3, .f32⟩
  | 4 => ⟨S2048x3, .f32⟩
  | 5 => ⟨S2048x3, .f32⟩
  | 6 => ⟨S2048x3, .f32⟩
  | 7 => ⟨S2048x3, .f32⟩
  | 8 => ⟨S_, .f32⟩
  | 9 => ⟨S2048, .f32⟩
  | 10 => ⟨S2048x3, .f32⟩
  | 11 => ⟨S_, .f32⟩
  | 12 => ⟨S2048, .f32⟩
  | 13 => ⟨S2048x3, .f32⟩
  | 14 => ⟨S_, .f32⟩
  | 15 => ⟨S2048, .f32⟩
  | 16 => ⟨S2048x3, .f32⟩
  | 17 => ⟨S_, .f32⟩
  | 18 => ⟨S2048, .f32⟩
  | 19 => ⟨S3x2048, .f32⟩
  | 20 => ⟨S8192x2048, .f32⟩
  | 21 => ⟨S3x2048, .f32⟩
  | 22 => ⟨S8192x2048, .f32⟩
  | 23 => ⟨S2048x3, .f32⟩
  | 24 => ⟨S_, .f32⟩
  | 25 => ⟨S2048, .f32⟩
  | 26 => ⟨S1x2048, .f32⟩
  | 27 => ⟨S8192x2048, .f32⟩
  | 28 => ⟨S8192x2048, .f32⟩
  | 29 => ⟨S2048x3, .f32⟩
  | 30 => ⟨S_, .f32⟩
  | 31 => ⟨S2048, .f32⟩
  | 32 => ⟨S1x2048, .f32⟩
  | 33 => ⟨S8192x2048, .f32⟩
  | 34 => ⟨S8192x2048, .f32⟩
  | 35 => ⟨S2048x3, .f32⟩
  | 36 => ⟨S_, .f32⟩
  | 37 => ⟨S2048, .f32⟩
  | 38 => ⟨S1x2048, .f32⟩
  | 39 => ⟨S8192x2048, .f32⟩
  | 40 => ⟨S8192x2048, .f32⟩
  | 41 => ⟨S2048x3, .f32⟩
  | 42 => ⟨S_, .f32⟩
  | 43 => ⟨S2048, .f32⟩
  | 44 => ⟨S1x2048, .f32⟩
  | 45 => ⟨S8192x2048, .f32⟩
  | 46 => ⟨S8192x2048, .f32⟩
  | 47 => ⟨S2048x3, .f32⟩
  | 48 => ⟨S_, .f32⟩
  | 49 => ⟨S2048, .f32⟩
  | 50 => ⟨S1x2048, .f32⟩
  | 51 => ⟨S8192x2048, .f32⟩
  | 52 => ⟨S8192x2048, .f32⟩
  | 53 => ⟨S2048x3, .f32⟩
  | 54 => ⟨S_, .f32⟩
  | 55 => ⟨S2048, .f32⟩
  | 56 => ⟨S1x2048, .f32⟩
  | 57 => ⟨S8192x2048, .f32⟩
  | 58 => ⟨S8192x2048, .f32⟩
  | 59 => ⟨S8192x3, .f32⟩
  | 60 => ⟨S_, .f32⟩
  | 61 => ⟨S8192, .f32⟩
  | 62 => ⟨S8192x1, .f32⟩
  | 63 => ⟨S3x2048, .f32⟩
  | 64 => ⟨S8192x2048, .f32⟩
  | 65 => ⟨S_, .f32⟩
  | 66 => ⟨S8192x2048, .f32⟩
  | 67 => ⟨S8192x2048, .f32⟩
  | 68 => ⟨S8192x2048, .f32⟩
  | 69 => ⟨S8192x2048, .f32⟩
  | 70 => ⟨S2048x3, .f32⟩
  | 71 => ⟨S_, .f32⟩
  | 72 => ⟨S2048, .f32⟩
  | 73 => ⟨S1x2048, .f32⟩
  | 74 => ⟨S8192x2048, .f32⟩
  | 75 => ⟨S8192x2048, .f32⟩
  | 76 => ⟨S3x2048, .f32⟩
  | 77 => ⟨S8192x2048, .f32⟩
  | 78 => ⟨S_, .f32⟩
  | 79 => ⟨S8192x2048, .f32⟩
  | 80 => ⟨S8192x2048, .f32⟩
  | 81 => ⟨S8192x2048, .f32⟩
  | 82 => ⟨S8192x2048, .f32⟩
  | 83 => ⟨S2048x3, .f32⟩
  | 84 => ⟨S_, .f32⟩
  | 85 => ⟨S2048, .f32⟩
  | 86 => ⟨S1x2048, .f32⟩
  | 87 => ⟨S8192x2048, .f32⟩
  | 88 => ⟨S8192x2048, .f32⟩
  | 89 => ⟨S3x2048, .f32⟩
  | 90 => ⟨S8192x2048, .f32⟩
  | 91 => ⟨S_, .f32⟩
  | 92 => ⟨S8192x2048, .f32⟩
  | 93 => ⟨S8192x2048, .f32⟩
  | 94 => ⟨S8192x2048, .f32⟩
  | 95 => ⟨S8192x2048, .f32⟩
  | 96 => ⟨S2048x3, .f32⟩
  | 97 => ⟨S_, .f32⟩
  | 98 => ⟨S2048, .f32⟩
  | 99 => ⟨S1x2048, .f32⟩
  | 100 => ⟨S8192x2048, .f32⟩
  | 101 => ⟨S8192x2048, .f32⟩
  | 102 => ⟨S8192x2048, .f32⟩
  | 103 => ⟨S8192x2048, .f32⟩
  | 104 => ⟨S8192x2048, .f32⟩
  | 105 => ⟨S8192x2048, .f32⟩
  | 106 => ⟨S8192x2048, .f32⟩
  | 107 => ⟨S8192x2048, .f32⟩
  | 108 => ⟨S8192x2048, .f32⟩
  | 109 => ⟨S8192x2048, .f32⟩
  | 110 => ⟨S8192x2048, .f32⟩
  | 111 => ⟨S_, .f32⟩
  | 112 => ⟨S8192x2048, .f32⟩
  | 113 => ⟨S8192x2048, .i1⟩
  | 114 => ⟨S_, .f32⟩
  | 115 => ⟨S8192x2048, .f32⟩
  | 116 => ⟨S8192x2048, .i1⟩
  | 117 => ⟨S8192x2048, .i1⟩
  | 118 => ⟨S_, .f32⟩
  | 119 => ⟨S8192x2048, .f32⟩
  | 120 => ⟨S8192x2048, .i1⟩
  | 121 => ⟨S8192x2048, .i1⟩
  | 122 => ⟨S8192x2048, .i1⟩
  | 123 => ⟨S_, .f32⟩
  | 124 => ⟨S8192x2048, .f32⟩
  | 125 => ⟨S8192x2048, .i1⟩
  | 126 => ⟨S8192x2048, .i1⟩
  | 127 => ⟨S8192x2048, .i1⟩
  | _ => ⟨S8192x3, .f32⟩

abbrev hbmTy0_1 (i : Nat) : BufTy := match i % 128 with
  | 0 => ⟨S_, .f32⟩
  | 1 => ⟨S8192x2048, .f32⟩
  | 2 => ⟨S8192x2048, .i1⟩
  | 3 => ⟨S_, .f32⟩
  | 4 => ⟨S8192x2048, .f32⟩
  | 5 => ⟨S8192x2048, .i1⟩
  | 6 => ⟨S8192x2048, .i1⟩
  | 7 => ⟨S_, .f32⟩
  | 8 => ⟨S8192x2048, .f32⟩
  | 9 => ⟨S8192x2048, .i1⟩
  | 10 => ⟨S8192x2048, .i1⟩
  | 11 => ⟨S_, .f32⟩
  | 12 => ⟨S8192x2048, .f32⟩
  | 13 => ⟨S8192x2048, .i1⟩
  | 14 => ⟨S_, .f32⟩
  | 15 => ⟨S8192x2048, .f32⟩
  | 16 => ⟨S8192x2048, .i1⟩
  | 17 => ⟨S8192x2048, .i1⟩
  | 18 => ⟨S_, .f32⟩
  | 19 => ⟨S8192x2048, .f32⟩
  | 20 => ⟨S8192x2048, .i1⟩
  | 21 => ⟨S8192x2048, .i1⟩
  | 22 => ⟨S_, .f32⟩
  | 23 => ⟨S8192x2048, .f32⟩
  | 24 => ⟨S8192x2048, .i1⟩
  | 25 => ⟨S8192x2048, .f32⟩
  | 26 => ⟨S_, .f32⟩
  | 27 => ⟨S8192x2048, .f32⟩
  | 28 => ⟨S8192x2048, .i1⟩
  | 29 => ⟨S8192x2048, .i1⟩
  | 30 => ⟨S8192x2048, .f32⟩
  | 31 => ⟨S_, .f32⟩
  | 32 => ⟨S8192x2048, .f32⟩
  | 33 => ⟨S8192x2048, .i1⟩
  | 34 => ⟨S8192x2048, .i1⟩
  | 35 => ⟨S8192x2048, .f32⟩
  | 36 => ⟨S_, .f32⟩
  | 37 => ⟨S8192x2048, .f32⟩
  | 38 => ⟨S8192x2048, .i1⟩
  | 39 => ⟨S8192x2048, .i1⟩
  | 40 => ⟨S_, .f32⟩
  | 41 => ⟨S_, .f32⟩
  | 42 => ⟨S8192x2048, .f32⟩
  | 43 => ⟨S8192x2048, .f32⟩
  | 44 => ⟨S8192x2048, .f32⟩
  | 45 => ⟨S_, .f32⟩
  | 46 => ⟨S_, .f32⟩
  | 47 => ⟨S8192x2048, .f32⟩
  | 48 => ⟨S8192x2048, .f32⟩
  | 49 => ⟨S_, .f32⟩
  | 50 => ⟨S8192x2048, .f32⟩
  | 51 => ⟨S8192x2048, .f32⟩
  | 52 => ⟨S8192x2048, .f32⟩
  | 53 => ⟨S8192x2048, .f32⟩
  | 54 => ⟨S8192x2048, .f32⟩
  | 55 => ⟨S1x2048, .f32⟩
  | 56 => ⟨S8192x2048, .f32⟩
  | 57 => ⟨S8192x2048, .f32⟩
  | 58 => ⟨S8192x2048, .f32⟩
  | 59 => ⟨S8192x2048, .f32⟩
  | 60 => ⟨S_, .f32⟩
  | 61 => ⟨S8192x2048, .f32⟩
  | 62 => ⟨S8192x2048, .i1⟩
  | 63 => ⟨S8192x2048, .i1⟩
  | 64 => ⟨S_, .f32⟩
  | 65 => ⟨S_, .f32⟩
  | 66 => ⟨S8192x2048, .f32⟩
  | 67 => ⟨S8192x2048, .f32⟩
  | 68 => ⟨S8192x2048, .f32⟩
  | 69 => ⟨S_, .f32⟩
  | 70 => ⟨S_, .f32⟩
  | 71 => ⟨S8192x2048, .f32⟩
  | 72 => ⟨S8192x2048, .f32⟩
  | 73 => ⟨S_, .f32⟩
  | 74 => ⟨S8192x2048, .f32⟩
  | 75 => ⟨S8192x2048, .f32⟩
  | 76 => ⟨S8192x2048, .f32⟩
  | 77 => ⟨S8192x2048, .f32⟩
  | 78 => ⟨S8192x2048, .f32⟩
  | 79 => ⟨S1x2048, .f32⟩
  | 80 => ⟨S8192x2048, .f32⟩
  | 81 => ⟨S8192x2048, .f32⟩
  | 82 => ⟨S8192x2048, .f32⟩
  | 83 => ⟨S8192x2048, .f32⟩
  | 84 => ⟨S8192x2048, .f32⟩
  | 85 => ⟨S8192x2048, .f32⟩
  | 86 => ⟨S8192x2048, .f32⟩
  | 87 => ⟨S_, .f32⟩
  | 88 => ⟨S8192x2048, .f32⟩
  | 89 => ⟨S8192x2048, .i1⟩
  | 90 => ⟨S8192x2048, .i1⟩
  | 91 => ⟨S_, .f32⟩
  | 92 => ⟨S_, .f32⟩
  | 93 => ⟨S8192x2048, .f32⟩
  | 94 => ⟨S8192x2048, .f32⟩
  | 95 => ⟨S8192x2048, .f32⟩
  | 96 => ⟨S_, .f32⟩
  | 97 => ⟨S_, .f32⟩
  | 98 => ⟨S8192x2048, .f32⟩
  | 99 => ⟨S8192x2048, .f32⟩
  | 100 => ⟨S_, .f32⟩
  | 101 => ⟨S8192x2048, .f32⟩
  | 102 => ⟨S8192x2048, .f32⟩
  | 103 => ⟨S8192x2048, .f32⟩
  | 104 => ⟨S8192x2048, .f32⟩
  | 105 => ⟨S8192x2048, .f32⟩
  | 106 => ⟨S1x2048, .f32⟩
  | 107 => ⟨S8192x2048, .f32⟩
  | 108 => ⟨S8192x2048, .f32⟩
  | 109 => ⟨S8192x2048, .f32⟩
  | 110 => ⟨S8192x2048, .f32⟩
  | 111 => ⟨S8192x2048, .f32⟩
  | 112 => ⟨S_, .f32⟩
  | 113 => ⟨S8192x2048, .f32⟩
  | 114 => ⟨S8192x2048, .i1⟩
  | 115 => ⟨S_, .f32⟩
  | 116 => ⟨S_, .f32⟩
  | 117 => ⟨S8192x2048, .f32⟩
  | 118 => ⟨S8192x2048, .f32⟩
  | 119 => ⟨S8192x2048, .f32⟩
  | 120 => ⟨S8192x2048, .f32⟩
  | 121 => ⟨S_, .f32⟩
  | 122 => ⟨S8192x2048, .f32⟩
  | 123 => ⟨S8192x2048, .f32⟩
  | 124 => ⟨S8192x2048, .f32⟩
  | 125 => ⟨S8192x2048, .f32⟩
  | 126 => ⟨S_, .f32⟩
  | 127 => ⟨S8192x2048, .f32⟩
  | _ => ⟨S8192x3, .f32⟩

abbrev hbmTy0_2 (i : Nat) : BufTy := match i % 128 with
  | 0 => ⟨S8192x2048, .f32⟩
  | 1 => ⟨S8192x2048, .f32⟩
  | 2 => ⟨S8192x2048, .f32⟩
  | 3 => ⟨S8192x2048, .f32⟩
  | 4 => ⟨S1x2048, .f32⟩
  | 5 => ⟨S8192x2048, .f32⟩
  | 6 => ⟨S8192x2048, .f32⟩
  | 7 => ⟨S8192x2048, .f32⟩
  | 8 => ⟨S_, .f32⟩
  | 9 => ⟨S8192x2048, .f32⟩
  | 10 => ⟨S8192x2048, .f32⟩
  | 11 => ⟨S8192x2048, .f32⟩
  | 12 => ⟨S1x2048, .f32⟩
  | 13 => ⟨S8192x2048, .f32⟩
  | 14 => ⟨S8192x2048, .f32⟩
  | 15 => ⟨S8192x2048, .f32⟩
  | 16 => ⟨S8192x2048, .f32⟩
  | 17 => ⟨S1x2048, .f32⟩
  | 18 => ⟨S8192x2048, .f32⟩
  | 19 => ⟨S8192x2048, .f32⟩
  | 20 => ⟨S8192x2048, .f32⟩
  | 21 => ⟨S_, .i32⟩
  | 22 => ⟨S8192x2048, .i32⟩
  | 23 => ⟨S8192x2048, .f32⟩
  | 24 => ⟨S_, .i32⟩
  | 25 => ⟨S_, .i32⟩
  | 26 => ⟨S8192x2048, .i32⟩
  | 27 => ⟨S8192x2048, .i32⟩
  | 28 => ⟨S8192x2048, .f32⟩
  | 29 => ⟨S_, .i32⟩
  | 30 => ⟨S_, .i32⟩
  | 31 => ⟨S8192x2048, .i32⟩
  | 32 => ⟨S8192x2048, .i32⟩
  | 33 => ⟨S8192x2048, .f32⟩
  | 34 => ⟨S_, .i32⟩
  | 35 => ⟨S_, .i32⟩
  | 36 => ⟨S8192x2048, .i32⟩
  | 37 => ⟨S8192x2048, .i32⟩
  | 38 => ⟨S8192x2048, .f32⟩
  | 39 => ⟨S_, .i32⟩
  | 40 => ⟨S_, .i32⟩
  | 41 => ⟨S8192x2048, .i32⟩
  | 42 => ⟨S8192x2048, .i32⟩
  | 43 => ⟨S8192x2048, .f32⟩
  | 44 => ⟨S_, .i32⟩
  | 45 => ⟨S_, .i32⟩
  | 46 => ⟨S8192x2048, .i32⟩
  | 47 => ⟨S8192x2048, .i32⟩
  | 48 => ⟨S8192x2048, .f32⟩
  | 49 => ⟨S_, .i32⟩
  | 50 => ⟨S_, .i32⟩
  | 51 => ⟨S8192x2048, .i32⟩
  | 52 => ⟨S8192x2048, .i32⟩
  | 53 => ⟨S_, .f32⟩
  | 54 => ⟨S8192x2048, .f32⟩
  | 55 => ⟨S8192x2048, .f32⟩
  | 56 => ⟨S_, .f32⟩
  | 57 => ⟨S8192, .f32⟩
  | 58 => ⟨S8192x2048, .i32⟩
  | 59 => ⟨S_, .f32⟩
  | 60 => ⟨S_, .i32⟩
  | 61 => ⟨S8192, .f32⟩
  | 62 => ⟨S8192, .i32⟩
  | 63 => ⟨S8192x1, .i32⟩
  | 64 => ⟨S_, .i32⟩
  | 65 => ⟨S8192x1, .i32⟩
  | 66 => ⟨S8192x1, .i1⟩
  | 67 => ⟨S_, .i32⟩
  | 68 => ⟨S8192x1, .i32⟩
  | 69 => ⟨S8192x1, .i32⟩
  | 70 => ⟨S8192x1, .i32⟩
  | 71 => ⟨S8192x1x1, .i32⟩
  | 72 => ⟨S1, .i32⟩
  | 73 => ⟨S_, .i32⟩
  | 74 => ⟨S8192x1x1, .i32⟩
  | 75 => ⟨S8192x1x1, .i1⟩
  | 76 => ⟨S1x1x1, .i32⟩
  | 77 => ⟨S8192x1x1, .i32⟩
  | 78 => ⟨S8192x1x1, .i1⟩
  | 79 => ⟨S8192x1x1, .i1⟩
  | 80 => ⟨S_, .i1⟩
  | 81 => ⟨S8192x1, .i1⟩
  | 82 => ⟨S8192x1, .i32⟩
  | 83 => ⟨S_, .i32⟩
  | 84 => ⟨S8192x1, .i32⟩
  | 85 => ⟨S8192x1, .i32⟩
  | 86 => ⟨S8192, .i32⟩
  | _ => ⟨S8192x3, .f32⟩

abbrev hbmTy (i : Nat) : BufTy := match i / 128 with
  | 0 => hbmTy0_0 i
  | 1 => hbmTy0_1 i
  | 2 => hbmTy0_2 i
  | _ => ⟨S8192x3, .f32⟩

abbrev bufTy : (tb : Table) → Fin (tcTables nBuf tb) → BufTy
  | .hbm, ⟨i, _⟩ => hbmTy i
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_9 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_10 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_11 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_12 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_13 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_14 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_15 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_cst_16 : Ref sig .tc := ⟨.hbm, 111, rfl⟩
abbrev main_v90 : Ref sig .tc := ⟨.hbm, 112, rfl⟩
abbrev main_v91 : Ref sig .tc := ⟨.hbm, 113, rfl⟩
abbrev main_cst_17 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_cst_18 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_cst_19 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_cst_20 : Ref sig .tc := ⟨.hbm, 128, rfl⟩
abbrev main_v103 : Ref sig .tc := ⟨.hbm, 129, rfl⟩
abbrev main_v104 : Ref sig .tc := ⟨.hbm, 130, rfl⟩
abbrev main_cst_21 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_cst_22 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_cst_23 : Ref sig .tc := ⟨.hbm, 139, rfl⟩
abbrev main_v111 : Ref sig .tc := ⟨.hbm, 140, rfl⟩
abbrev main_v112 : Ref sig .tc := ⟨.hbm, 141, rfl⟩
abbrev main_cst_24 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_cst_25 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_cst_26 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_cst_27 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_cst_28 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_cst_29 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_cst_30 : Ref sig .tc := ⟨.hbm, 168, rfl⟩
abbrev main_call0_v0 : Ref sig .tc := ⟨.hbm, 169, rfl⟩
abbrev main_call0_v1 : Ref sig .tc := ⟨.hbm, 170, rfl⟩
abbrev main_v133 : Ref sig .tc := ⟨.hbm, 171, rfl⟩
abbrev main_v134 : Ref sig .tc := ⟨.hbm, 172, rfl⟩
abbrev main_cst_31 : Ref sig .tc := ⟨.hbm, 173, rfl⟩
abbrev main_call1_v0 : Ref sig .tc := ⟨.hbm, 174, rfl⟩
abbrev main_call1_v1 : Ref sig .tc := ⟨.hbm, 175, rfl⟩
abbrev main_v135 : Ref sig .tc := ⟨.hbm, 176, rfl⟩
abbrev main_cst_32 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_cst_33 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_cst_34 : Ref sig .tc := ⟨.hbm, 192, rfl⟩
abbrev main_call2_v0 : Ref sig .tc := ⟨.hbm, 193, rfl⟩
abbrev main_call2_v1 : Ref sig .tc := ⟨.hbm, 194, rfl⟩
abbrev main_v149 : Ref sig .tc := ⟨.hbm, 195, rfl⟩
abbrev main_v150 : Ref sig .tc := ⟨.hbm, 196, rfl⟩
abbrev main_cst_35 : Ref sig .tc := ⟨.hbm, 197, rfl⟩
abbrev main_call3_v0 : Ref sig .tc := ⟨.hbm, 198, rfl⟩
abbrev main_call3_v1 : Ref sig .tc := ⟨.hbm, 199, rfl⟩
abbrev main_v151 : Ref sig .tc := ⟨.hbm, 200, rfl⟩
abbrev main_cst_36 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_cst_37 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_cst_38 : Ref sig .tc := ⟨.hbm, 219, rfl⟩
abbrev main_call4_v0 : Ref sig .tc := ⟨.hbm, 220, rfl⟩
abbrev main_call4_v1 : Ref sig .tc := ⟨.hbm, 221, rfl⟩
abbrev main_v168 : Ref sig .tc := ⟨.hbm, 222, rfl⟩
abbrev main_v169 : Ref sig .tc := ⟨.hbm, 223, rfl⟩
abbrev main_cst_39 : Ref sig .tc := ⟨.hbm, 224, rfl⟩
abbrev main_call5_v0 : Ref sig .tc := ⟨.hbm, 225, rfl⟩
abbrev main_call5_v1 : Ref sig .tc := ⟨.hbm, 226, rfl⟩
abbrev main_v170 : Ref sig .tc := ⟨.hbm, 227, rfl⟩
abbrev main_cst_40 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_cst_41 : Ref sig .tc := ⟨.hbm, 240, rfl⟩
abbrev main_v182 : Ref sig .tc := ⟨.hbm, 241, rfl⟩
abbrev main_v183 : Ref sig .tc := ⟨.hbm, 242, rfl⟩
abbrev main_cst_42 : Ref sig .tc := ⟨.hbm, 243, rfl⟩
abbrev main_call6_v0 : Ref sig .tc := ⟨.hbm, 244, rfl⟩
abbrev main_call6_v1 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_cst_43 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_cst_44 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩
abbrev main_v197 : Ref sig .tc := ⟨.hbm, 261, rfl⟩
abbrev main_v198 : Ref sig .tc := ⟨.hbm, 262, rfl⟩
abbrev main_v199 : Ref sig .tc := ⟨.hbm, 263, rfl⟩
abbrev main_cst_45 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_v203 : Ref sig .tc := ⟨.hbm, 268, rfl⟩
abbrev main_v204 : Ref sig .tc := ⟨.hbm, 269, rfl⟩
abbrev main_v205 : Ref sig .tc := ⟨.hbm, 270, rfl⟩
abbrev main_v206 : Ref sig .tc := ⟨.hbm, 271, rfl⟩
abbrev main_v207 : Ref sig .tc := ⟨.hbm, 272, rfl⟩
abbrev main_v208 : Ref sig .tc := ⟨.hbm, 273, rfl⟩
abbrev main_v209 : Ref sig .tc := ⟨.hbm, 274, rfl⟩
abbrev main_v210 : Ref sig .tc := ⟨.hbm, 275, rfl⟩
abbrev main_v211 : Ref sig .tc := ⟨.hbm, 276, rfl⟩
abbrev main_c : Ref sig .tc := ⟨.hbm, 277, rfl⟩
abbrev main_v212 : Ref sig .tc := ⟨.hbm, 278, rfl⟩
abbrev main_v213 : Ref sig .tc := ⟨.hbm, 279, rfl⟩
abbrev main_c_46 : Ref sig .tc := ⟨.hbm, 280, rfl⟩
abbrev main_call8_v0 : Ref sig .tc := ⟨.hbm, 281, rfl⟩
abbrev main_call8_v1 : Ref sig .tc := ⟨.hbm, 282, rfl⟩
abbrev main_v214 : Ref sig .tc := ⟨.hbm, 283, rfl⟩
abbrev main_v215 : Ref sig .tc := ⟨.hbm, 284, rfl⟩
abbrev main_c_47 : Ref sig .tc := ⟨.hbm, 285, rfl⟩
abbrev main_call10_v0 : Ref sig .tc := ⟨.hbm, 286, rfl⟩
abbrev main_call10_v1 : Ref sig .tc := ⟨.hbm, 287, rfl⟩
abbrev main_v216 : Ref sig .tc := ⟨.hbm, 288, rfl⟩
abbrev main_v217 : Ref sig .tc := ⟨.hbm, 289, rfl⟩
abbrev main_c_48 : Ref sig .tc := ⟨.hbm, 290, rfl⟩
abbrev main_call12_v0 : Ref sig .tc := ⟨.hbm, 291, rfl⟩
abbrev main_call12_v1 : Ref sig .tc := ⟨.hbm, 292, rfl⟩
abbrev main_v218 : Ref sig .tc := ⟨.hbm, 293, rfl⟩
abbrev main_v219 : Ref sig .tc := ⟨.hbm, 294, rfl⟩
abbrev main_c_49 : Ref sig .tc := ⟨.hbm, 295, rfl⟩
abbrev main_call14_v0 : Ref sig .tc := ⟨.hbm, 296, rfl⟩
abbrev main_call14_v1 : Ref sig .tc := ⟨.hbm, 297, rfl⟩
abbrev main_v220 : Ref sig .tc := ⟨.hbm, 298, rfl⟩
abbrev main_v221 : Ref sig .tc := ⟨.hbm, 299, rfl⟩
abbrev main_c_50 : Ref sig .tc := ⟨.hbm, 300, rfl⟩
abbrev main_call16_v0 : Ref sig .tc := ⟨.hbm, 301, rfl⟩
abbrev main_call16_v1 : Ref sig .tc := ⟨.hbm, 302, rfl⟩
abbrev main_v222 : Ref sig .tc := ⟨.hbm, 303, rfl⟩
abbrev main_v223 : Ref sig .tc := ⟨.hbm, 304, rfl⟩
abbrev main_c_51 : Ref sig .tc := ⟨.hbm, 305, rfl⟩
abbrev main_call18_v0 : Ref sig .tc := ⟨.hbm, 306, rfl⟩
abbrev main_call18_v1 : Ref sig .tc := ⟨.hbm, 307, rfl⟩
abbrev main_v224 : Ref sig .tc := ⟨.hbm, 308, rfl⟩
abbrev main_cst_52 : Ref sig .tc := ⟨.hbm, 309, rfl⟩
abbrev main_v225 : Ref sig .tc := ⟨.hbm, 310, rfl⟩
abbrev main_v226 : Ref sig .tc := ⟨.hbm, 311, rfl⟩
abbrev main_cst_53 : Ref sig .tc := ⟨.hbm, 312, rfl⟩
abbrev main_v227 : Ref sig .tc := ⟨.hbm, 313, rfl⟩
abbrev main_call19_v0 : Ref sig .tc := ⟨.hbm, 314, rfl⟩
abbrev main_call19_cst : Ref sig .tc := ⟨.hbm, 315, rfl⟩
abbrev main_call19_c : Ref sig .tc := ⟨.hbm, 316, rfl⟩
abbrev main_call19_v1_0 : Ref sig .tc := ⟨.hbm, 317, rfl⟩
abbrev main_v228 : Ref sig .tc := ⟨.hbm, 318, rfl⟩
abbrev main_v229 : Ref sig .tc := ⟨.hbm, 319, rfl⟩
abbrev main_call20_c : Ref sig .tc := ⟨.hbm, 320, rfl⟩
abbrev main_call20_v0 : Ref sig .tc := ⟨.hbm, 321, rfl⟩
abbrev main_call20_v1 : Ref sig .tc := ⟨.hbm, 322, rfl⟩
abbrev main_call20_c_0 : Ref sig .tc := ⟨.hbm, 323, rfl⟩
abbrev main_call20_v2 : Ref sig .tc := ⟨.hbm, 324, rfl⟩
abbrev main_call20_v3 : Ref sig .tc := ⟨.hbm, 325, rfl⟩
abbrev main_call20_v4 : Ref sig .tc := ⟨.hbm, 326, rfl⟩
abbrev main_call20_v5 : Ref sig .tc := ⟨.hbm, 327, rfl⟩
abbrev main_call20_c_1 : Ref sig .tc := ⟨.hbm, 328, rfl⟩
abbrev main_call20_c_2 : Ref sig .tc := ⟨.hbm, 329, rfl⟩
abbrev main_call20_v6 : Ref sig .tc := ⟨.hbm, 330, rfl⟩
abbrev main_call20_v7 : Ref sig .tc := ⟨.hbm, 331, rfl⟩
abbrev main_call20_v8 : Ref sig .tc := ⟨.hbm, 332, rfl⟩
abbrev main_call20_v9 : Ref sig .tc := ⟨.hbm, 333, rfl⟩
abbrev main_call20_v10 : Ref sig .tc := ⟨.hbm, 334, rfl⟩
abbrev main_call20_v11 : Ref sig .tc := ⟨.hbm, 335, rfl⟩
abbrev main_call20_c_3 : Ref sig .tc := ⟨.hbm, 336, rfl⟩
abbrev main_call20_v12 : Ref sig .tc := ⟨.hbm, 337, rfl⟩
abbrev main_call20_v13 : Ref sig .tc := ⟨.hbm, 338, rfl⟩
abbrev main_call20_c_4 : Ref sig .tc := ⟨.hbm, 339, rfl⟩
abbrev main_call20_v14 : Ref sig .tc := ⟨.hbm, 340, rfl⟩
abbrev main_v230 : Ref sig .tc := ⟨.hbm, 341, rfl⟩
abbrev main_v231 : Ref sig .tc := ⟨.hbm, 342, rfl⟩

abbrev nD : Nat := 1
abbrev τ : Topo := Topo.v7x

variable {F : FTy → Type} [FloatOps F]
-- ==== Proof.Fix.lean ====
/- Straight lines of host operations in which every operation writes a fresh buffer of higher number.
   After such a line has run, every operation of it can be read as an equation between the final
   contents of its buffers: running it once more changes nothing. The value proofs use these equations
   in place of a composed term. -/
module

public import Idealize.ShloMosaic.Lib.StableHlo.Run
public import Idealize.ShloMosaic.Lib.StableHlo.RunHlo
public import Idealize.ShloMosaic.Lib.Pipeline.Frame

@[expose] public section

noncomputable section

namespace Cert.Fix

open Idealize.ShloMosaic Idealize.SL.Sem Idealize.ShloMosaic.StableHlo

variable {nD : Nat} {τ : Topo} {sig : RefSig} {Val : EltTy → Type} {Λ : Labels}

/-- The number of a buffer. -/
def key (r : Ref sig .tc) : Nat := r.idx.val

theorem ne_of_key_lt {a b : Ref sig .tc} (h : key a < key b) : a ≠ b := fun e => by
  subst e; exact Nat.lt_irrefl _ h

/-- One operation that writes `y` alone, reads only buffers of lower number, and is settled by one run. -/
structure Step (op : HloOp τ sig Val) (y : Ref sig .tc) : Prop where
  writes : op.writes = {Proc.devRef (τ := τ) .tc y}
  bufs : ∀ b ∈ op.bufs, ∃ r : Ref sig .tc, b = Proc.devRef (τ := τ) .tc r ∧ key r ≤ key y
  idem : ∀ F, op.result (op.result F) = op.result F
  fresh : op.fresh = ∅

/-- The line's operations write buffers of strictly rising numbers, the first at least `k`, the last below `k'`. -/
def Line (k : Nat) : List (HloOp τ sig Val) → Nat → Prop
  | [], k' => k ≤ k'
  | op :: ops, k' => ∃ y, Step op y ∧ k ≤ key y ∧ Line (key y + 1) ops k'

theorem Line.mono : ∀ {ops : List (HloOp τ sig Val)} {j k k' : Nat}, j ≤ k → Line k ops k' → Line j ops k'
  | [], _, _, _, h, h' => le_trans h h'
  | _ :: _, _, _, _, h, ⟨y, s, hk, l⟩ => ⟨y, s, le_trans h hk, l⟩

theorem Line.append : ∀ {l₁ l₂ : List (HloOp τ sig Val)} {k k' k'' : Nat}, Line k l₁ k' → Line k' l₂ k'' →
    Line k (l₁ ++ l₂) k''
  | [], _, _, _, _, h, h' => h'.mono h
  | _ :: _, _, _, _, _, ⟨y, s, hk, l⟩, h' => ⟨y, s, hk, l.append h'⟩

theorem Line.nil (k : Nat) : Line k ([] : List (HloOp τ sig Val)) k := Nat.le_refl k

theorem Line.cons {op : HloOp τ sig Val} {ops : List (HloOp τ sig Val)} {y : Ref sig .tc} {k k' : Nat}
    (s : Step op y) (hk : k ≤ key y) (l : Line (key y + 1) ops k') : Line k (op :: ops) k' := ⟨y, s, hk, l⟩

/-- A buffer numbered below everything the line writes keeps its contents. -/
theorem Line.after_low {r : Ref sig .tc} : ∀ {ops : List (HloOp τ sig Val)} {k k' : Nat} (V : Valuation τ sig Val),
    Line k ops k' → key r < k → after ops V (Proc.devRef .tc r) = V (Proc.devRef .tc r)
  | [], _, _, _, _, _ => rfl
  | op :: ops, k, k', V, ⟨y, s, hk, l⟩, hr => by
    rw [after_cons, Line.after_low (op.result V) l (by omega)]
    exact result_of_writes_ne op V y r s.writes (ne_of_key_lt (lt_of_lt_of_le hr hk))

theorem Line.fresh : ∀ {ops : List (HloOp τ sig Val)} {k k' : Nat}, Line k ops k' → ∀ op ∈ ops, op.fresh = ∅
  | [], _, _, _, _, h => by cases h
  | _ :: _, _, _, ⟨_, s, _, l⟩, op, h => by
    rcases List.mem_cons.mp h with rfl | h
    · exact s.fresh
    · exact l.fresh op h

theorem Line.sub : ∀ {ops : List (HloOp τ sig Val)} {k k' : Nat}, Line k ops k' → ∀ op ∈ ops, op.bufs ⊆ tcRefs τ sig
  | [], _, _, _, _, h => by cases h
  | _ :: _, _, _, ⟨_, s, _, l⟩, op, h => by
    rcases List.mem_cons.mp h with rfl | h
    · intro b hb
      obtain ⟨r, rfl, _⟩ := s.bufs b hb
      exact devRef_mem_tcRefs r
    · exact l.sub op h

/-- Running any operation of the line once more, after the line, changes nothing. -/
theorem Line.fixed : ∀ {ops : List (HloOp τ sig Val)} {k k' : Nat} (V : Valuation τ sig Val), Line k ops k' →
    ∀ op ∈ ops, op.result (after ops V) = after ops V
  | [], _, _, _, _, _, h => by cases h
  | op₀ :: ops, k, k', V, ⟨y, s, hk, l⟩, op, h => by
    rcases List.mem_cons.mp h with rfl | h
    · have agree : ∀ b ∈ op.bufs, after ops (op.result V) b = op.result V b := fun b hb => by
        obtain ⟨r, rfl, hr⟩ := s.bufs b hb
        exact l.after_low _ (by omega)
      funext b
      by_cases hb : b ∈ op.writes
      · have hb' := op.writes_sub hb
        rw [after_cons, op.result_congr agree b hb', s.idem, agree b hb']
      · rw [op.result_of_not_mem _ hb]
    · exact l.fixed (op₀.result V) op h

/-! ## The builders are such steps -/

theorem idem_of {op : HloOp τ sig Val} {y : Ref sig .tc} (hw : op.writes = {Proc.devRef (τ := τ) .tc y})
    (h : ∀ F, op.result (op.result F) (Proc.devRef .tc y) = op.result F (Proc.devRef .tc y)) :
    ∀ F, op.result (op.result F) = op.result F := fun F => by
  funext b
  by_cases hb : b ∈ op.writes
  · rw [hw, Finset.mem_singleton] at hb
    subst hb; exact h F
  · rw [op.result_of_not_mem _ hb]

theorem Step.nullary (y : Ref sig .tc) (v : y.ty.Contents Val) (hy) :
    Step (StableHlo.nullary (τ := τ) y v hy) y where
  writes := rfl
  bufs b hb := ⟨y, Finset.mem_singleton.mp hb, Nat.le_refl _⟩
  idem := idem_of rfl fun F => by rw [nullary_result, nullary_result]
  fresh := rfl

theorem Step.unary {x y : Ref sig .tc} (f : x.ty.Contents Val → y.ty.Contents Val) (hx hy) (h : key x < key y) :
    Step (StableHlo.unary (τ := τ) x y f hx hy) y where
  writes := rfl
  bufs b hb := by
    rcases Finset.mem_insert.mp hb with e | hb
    · exact ⟨x, e, h.le⟩
    · exact ⟨y, Finset.mem_singleton.mp hb, Nat.le_refl _⟩
  idem := idem_of rfl fun F => by
    rw [unary_result, unary_result, unary_result_ne _ _ _ _ _ _ (ne_of_key_lt h)]
  fresh := rfl

theorem Step.reshape {x y : Ref sig .tc} (he hn hx hy) (h : key x < key y) :
    Step (StableHlo.reshape (τ := τ) (Val := Val) x y he hn hx hy) y where
  writes := rfl
  bufs b hb := by
    rcases Finset.mem_insert.mp hb with e | hb
    · exact ⟨x, e, h.le⟩
    · exact ⟨y, Finset.mem_singleton.mp hb, Nat.le_refl _⟩
  idem := idem_of rfl fun F => by
    rw [reshape_result, reshape_result, reshape_result_ne _ _ _ _ _ _ _ (ne_of_key_lt h)]
  fresh := rfl

theorem Step.binary {a b y : Ref sig .tc} (f : a.ty.Contents Val → b.ty.Contents Val → y.ty.Contents Val) (ha hb hy)
    (h₁ : key a < key y) (h₂ : key b < key y) : Step (StableHlo.binary (τ := τ) a b y f ha hb hy) y where
  writes := rfl
  bufs c hc := by
    rcases Finset.mem_insert.mp hc with e | hc
    · exact ⟨a, e, h₁.le⟩
    · rcases Finset.mem_insert.mp hc with e | hc
      · exact ⟨b, e, h₂.le⟩
      · exact ⟨y, Finset.mem_singleton.mp hc, Nat.le_refl _⟩
  idem := idem_of rfl fun F => by
    rw [binary_result, binary_result, binary_result_ne _ _ _ _ _ _ _ _ (ne_of_key_lt h₁),
      binary_result_ne _ _ _ _ _ _ _ _ (ne_of_key_lt h₂)]
  fresh := rfl

theorem Step.ternary {c a b y : Ref sig .tc}
    (f : c.ty.Contents Val → a.ty.Contents Val → b.ty.Contents Val → y.ty.Contents Val) (hc ha hb hy)
    (h₀ : key c < key y) (h₁ : key a < key y) (h₂ : key b < key y) :
    Step (StableHlo.ternary (τ := τ) c a b y f hc ha hb hy) y where
  writes := rfl
  bufs d hd := by
    rcases Finset.mem_insert.mp hd with e | hd
    · exact ⟨c, e, h₀.le⟩
    rcases Finset.mem_insert.mp hd with e | hd
    · exact ⟨a, e, h₁.le⟩
    rcases Finset.mem_insert.mp hd with e | hd
    · exact ⟨b, e, h₂.le⟩
    exact ⟨y, Finset.mem_singleton.mp hd, Nat.le_refl _⟩
  idem := idem_of rfl fun F => by
    rw [ternary_result, ternary_result, ternary_result_ne _ _ _ _ _ _ _ _ _ _ (ne_of_key_lt h₀),
      ternary_result_ne _ _ _ _ _ _ _ _ _ _ (ne_of_key_lt h₁), ternary_result_ne _ _ _ _ _ _ _ _ _ _ (ne_of_key_lt h₂)]
  fresh := rfl

theorem Step.quaternary {a b c e y : Ref sig .tc}
    (f : a.ty.Contents Val → b.ty.Contents Val → c.ty.Contents Val → e.ty.Contents Val → y.ty.Contents Val)
    (ha hb hc he hy) (h₀ : key a < key y) (h₁ : key b < key y) (h₂ : key c < key y) (h₃ : key e < key y) :
    Step (StableHlo.quaternary (τ := τ) a b c e y f ha hb hc he hy) y where
  writes := rfl
  bufs d hd := by
    rcases Finset.mem_insert.mp hd with e' | hd
    · exact ⟨a, e', h₀.le⟩
    rcases Finset.mem_insert.mp hd with e' | hd
    · exact ⟨b, e', h₁.le⟩
    rcases Finset.mem_insert.mp hd with e' | hd
    · exact ⟨c, e', h₂.le⟩
    rcases Finset.mem_insert.mp hd with e' | hd
    · exact ⟨e, e', h₃.le⟩
    exact ⟨y, Finset.mem_singleton.mp hd, Nat.le_refl _⟩
  idem := idem_of rfl fun F => by
    rw [quaternary_result, quaternary_result, quaternary_result_ne _ _ _ _ _ _ _ _ _ _ _ _ (ne_of_key_lt h₀),
      quaternary_result_ne _ _ _ _ _ _ _ _ _ _ _ _ (ne_of_key_lt h₁),
      quaternary_result_ne _ _ _ _ _ _ _ _ _ _ _ _ (ne_of_key_lt h₂),
      quaternary_result_ne _ _ _ _ _ _ _ _ _ _ _ _ (ne_of_key_lt h₃)]
  fresh := rfl

theorem Step.nary {n : Nat} {xs : Fin n → Ref sig .tc} {y : Ref sig .tc}
    (f : ((k : Fin n) → (xs k).ty.Contents Val) → y.ty.Contents Val) (hxs hy) (h : ∀ k, key (xs k) < key y) :
    Step (StableHlo.nary (τ := τ) xs y f hxs hy) y where
  writes := rfl
  bufs b hb := by
    rcases Finset.mem_insert.mp hb with e | hb
    · exact ⟨y, e, Nat.le_refl _⟩
    · obtain ⟨k, _, e⟩ := Finset.mem_image.mp hb
      exact ⟨xs k, e.symm, (h k).le⟩
  idem := idem_of rfl fun F => by
    rw [nary_result, nary_result]
    exact congrArg f (funext fun k => nary_result_ne _ _ _ _ _ _ (ne_of_key_lt (h k)))
  fresh := rfl

/-! ## A settled operation as an equation -/

theorem fix_iff {op : HloOp τ sig Val} {y : Ref sig .tc} (hw : op.writes = {Proc.devRef (τ := τ) .tc y})
    (W : Valuation τ sig Val) : op.result W = W ↔ op.result W (Proc.devRef .tc y) = W (Proc.devRef .tc y) := by
  refine ⟨fun h => congrFun h _, fun h => ?_⟩
  funext b
  by_cases hb : b ∈ op.writes
  · rw [hw, Finset.mem_singleton] at hb
    subst hb; exact h
  · exact op.result_of_not_mem _ hb

variable (W : Valuation τ sig Val)

theorem nullary_fix (y : Ref sig .tc) (v : y.ty.Contents Val) (hy) :
    (nullary (τ := τ) y v hy).result W = W ↔ W (Proc.devRef .tc y) = v :=
  (fix_iff (y := y) rfl W).trans (by rw [nullary_result]; exact eq_comm)

theorem unary_fix (x y : Ref sig .tc) (f : x.ty.Contents Val → y.ty.Contents Val) (hx hy) :
    (unary (τ := τ) x y f hx hy).result W = W ↔ W (Proc.devRef .tc y) = f (W (Proc.devRef .tc x)) :=
  (fix_iff (y := y) rfl W).trans (by rw [unary_result]; exact eq_comm)

theorem reshape_fix (x y : Ref sig .tc) (he hn hx hy) :
    (reshape (τ := τ) (Val := Val) x y he hn hx hy).result W = W ↔
      W (Proc.devRef .tc y) = fun i => he ▸ shapeCast y.ty.shape (W (Proc.devRef .tc x)) hn i :=
  (fix_iff (y := y) rfl W).trans (by rw [reshape_result]; exact eq_comm)

theorem binary_fix (a b y : Ref sig .tc) (f : a.ty.Contents Val → b.ty.Contents Val → y.ty.Contents Val) (ha hb hy) :
    (binary (τ := τ) a b y f ha hb hy).result W = W ↔
      W (Proc.devRef .tc y) = f (W (Proc.devRef .tc a)) (W (Proc.devRef .tc b)) :=
  (fix_iff (y := y) rfl W).trans (by rw [binary_result]; exact eq_comm)

theorem ternary_fix (c a b y : Ref sig .tc)
    (f : c.ty.Contents Val → a.ty.Contents Val → b.ty.Contents Val → y.ty.Contents Val) (hc ha hb hy) :
    (ternary (τ := τ) c a b y f hc ha hb hy).result W = W ↔
      W (Proc.devRef .tc y) = f (W (Proc.devRef .tc c)) (W (Proc.devRef .tc a)) (W (Proc.devRef .tc b)) :=
  (fix_iff (y := y) rfl W).trans (by rw [ternary_result]; exact eq_comm)

theorem quaternary_fix (a b c e y : Ref sig .tc)
    (f : a.ty.Contents Val → b.ty.Contents Val → c.ty.Contents Val → e.ty.Contents Val → y.ty.Contents Val)
    (ha hb hc he hy) : (quaternary (τ := τ) a b c e y f ha hb hc he hy).result W = W ↔
      W (Proc.devRef .tc y) =
        f (W (Proc.devRef .tc a)) (W (Proc.devRef .tc b)) (W (Proc.devRef .tc c)) (W (Proc.devRef .tc e)) :=
  (fix_iff (y := y) rfl W).trans (by rw [quaternary_result]; exact eq_comm)

theorem nary_fix {n : Nat} (xs : Fin n → Ref sig .tc) (y : Ref sig .tc)
    (f : ((k : Fin n) → (xs k).ty.Contents Val) → y.ty.Contents Val) (hxs hy) :
    (nary (τ := τ) xs y f hxs hy).result W = W ↔
      W (Proc.devRef .tc y) = f fun k => W (Proc.devRef .tc (xs k)) :=
  (fix_iff (y := y) rfl W).trans (by rw [nary_result]; exact eq_comm)

/-! ## Reading a printed program as a line -/

/-- A call, or a window, read as a list of its own and followed by the rest. -/
theorem seq_bind {p q : Prog (TpuEff nD τ sig Val Λ .tc) PUnit} {l₁ l₂ : List (HloOp τ sig Val)}
    (h₁ : IsSeq p l₁) (h₂ : IsSeq q l₂) : IsSeq (p >>= fun _ => q) (l₁ ++ l₂) := by
  unfold IsSeq at h₁ h₂ ⊢; rw [seq_append, h₁, h₂]

/-- The last operation of a window, which nothing follows. -/
theorem seq_last {op : HloOp τ sig Val} :
    IsSeq (nD := nD) (Λ := Λ) (hlo rfl op fun _ => .ret (⟨⟩ : PUnit)) [op] := rfl

end Cert.Fix

end
-- ==== Proof.Cell.lean ====
module

public import Idealize.ShloMosaic.Lib.Pointwise

/-! # One point against one triangle

The distance of a point to a triangle and the number of the feature that realises it, as functions
of thirteen numbers. The kernel merges the three edges before it divides; the reference divides on
each edge. The two are the same function. -/

@[expose] public section

noncomputable section

namespace Cert.Cell
open Idealize.ShloMosaic

/-- One value of the idealized program. -/
abbrev E := Ideal .f32

/-- The thirteen numbers of one point and one triangle: the six projections of the point on the edges at
the corners, the squared distances to the corners, and the products of the edges. -/
structure Q where
  d1 : E
  d2 : E
  d3 : E
  d4 : E
  d5 : E
  d6 : E
  a2 : E
  b2 : E
  c2 : E
  aa : E
  cc : E
  bb : E
  ee : E

/-- The constants of the program. -/
def zero : E := FloatOps.ofBits .f32 0x00000000#32
def one : E := FloatOps.ofBits .f32 0x3F800000#32
def two : E := FloatOps.ofBits .f32 0x40000000#32

/-- The difference of two products. -/
def minor (x y z w : E) : E := FloatOps.subf (FloatOps.mulf x y) (FloatOps.mulf z w)

/-- The unnormalised barycentric coordinates. -/
def vc (q : Q) : E := minor q.d1 q.d4 q.d3 q.d2
def vb (q : Q) : E := minor q.d5 q.d2 q.d1 q.d6
def va (q : Q) : E := minor q.d3 q.d6 q.d5 q.d4

/-- Comparisons with zero and between two numbers. -/
def le (x y : E) : BitVec 1 := FloatOps.cmpf .ole x y
def ge (x y : E) : BitVec 1 := FloatOps.cmpf .oge x y

/-- The six regions, in the order in which they are tried. -/
def condA (q : Q) : BitVec 1 := IntOp.andi (le q.d1 zero) (le q.d2 zero)
def condB (q : Q) : BitVec 1 := IntOp.andi (ge q.d3 zero) (le q.d4 q.d3)
def condC (q : Q) : BitVec 1 := IntOp.andi (ge q.d6 zero) (le q.d5 q.d6)
def condAB (q : Q) : BitVec 1 := IntOp.andi (IntOp.andi (le (vc q) zero) (ge q.d1 zero)) (le q.d3 zero)
def condAC (q : Q) : BitVec 1 := IntOp.andi (IntOp.andi (le (vb q) zero) (ge q.d2 zero)) (le q.d6 zero)
def condBC (q : Q) : BitVec 1 :=
  IntOp.andi (IntOp.andi (le (va q) zero) (ge (FloatOps.subf q.d4 q.d3) zero)) (ge (FloatOps.subf q.d5 q.d6) zero)

/-- The squared distance to a point at the parameter `t` of an edge. -/
def edge (t num base len : E) : E :=
  FloatOps.addf (FloatOps.subf base (FloatOps.mulf (FloatOps.mulf two t) num)) (FloatOps.mulf (FloatOps.mulf t t) len)

/-- The denominators of the edges. -/
def denAB (q : Q) : E := FloatOps.subf q.d1 q.d3
def denAC (q : Q) : E := FloatOps.subf q.d2 q.d6
def numBC (q : Q) : E := FloatOps.subf q.d4 q.d3
def denBC (q : Q) : E := FloatOps.addf (FloatOps.subf q.d4 q.d3) (FloatOps.subf q.d5 q.d6)

/-- The sum of the barycentric coordinates. -/
def total (q : Q) : E := FloatOps.addf (FloatOps.addf (va q) (vb q)) (vc q)

/-- The squared distance to the point of the face at `v`, `w`. -/
def face (q : Q) (v w : E) : E :=
  FloatOps.addf (FloatOps.addf (FloatOps.addf
    (FloatOps.subf (FloatOps.subf q.a2 (FloatOps.mulf (FloatOps.mulf two v) q.d1)) (FloatOps.mulf (FloatOps.mulf two w) q.d2))
    (FloatOps.mulf (FloatOps.mulf v v) q.aa)) (FloatOps.mulf (FloatOps.mulf (FloatOps.mulf two v) w) q.bb))
    (FloatOps.mulf (FloatOps.mulf w w) q.cc)

/-- The kernel's merged edge. -/
def kedge (q : Q) : E :=
  let num := Scalar.select (condAB q) q.d1 (Scalar.select (condAC q) q.d2 (numBC q))
  let den := Scalar.select (condAB q) (denAB q) (Scalar.select (condAC q) (denAC q) (denBC q))
  let base := Scalar.select (IntOp.ori (condAB q) (condAC q)) q.a2 q.b2
  let len := Scalar.select (condAB q) q.aa (Scalar.select (condAC q) q.cc q.ee)
  edge (FloatOps.divf num (Scalar.select (FloatOps.cmpf .one den zero) den one)) num base len

/-- The kernel's guarded sum and its face. -/
def ktotal (q : Q) : E := Scalar.select (FloatOps.cmpf .one (total q) zero) (total q) one
def kface (q : Q) : E := face q (FloatOps.divf (vb q) (ktotal q)) (FloatOps.divf (vc q) (ktotal q))

/-- The kernel's squared distance. -/
def kdist (q : Q) : E :=
  Scalar.select (condA q) q.a2 (Scalar.select (condB q) q.b2 (Scalar.select (condC q) q.c2
    (Scalar.select (IntOp.ori (IntOp.ori (condAB q) (condAC q)) (condBC q)) (kedge q) (kface q))))

/-- The reference's edge: its parameter is zero outside the region. -/
def redge (c : BitVec 1) (num den base len : E) : E :=
  edge (Scalar.select c (FloatOps.hostDivf num (Scalar.select (IntOp.andi c (FloatOps.cmpf .une den zero)) den one)) zero) num base len

/-- The reference's guarded sum and its face. -/
def rtotal (q : Q) : E := Scalar.select (FloatOps.cmpf .une (total q) zero) (total q) one
def rface (q : Q) : E := face q (FloatOps.hostDivf (vb q) (rtotal q)) (FloatOps.hostDivf (vc q) (rtotal q))

/-- The reference's squared distance. -/
def rdist (q : Q) : E :=
  Scalar.select (condA q) q.a2 (Scalar.select (condB q) q.b2 (Scalar.select (condC q) q.c2
    (Scalar.select (condAB q) (redge (condAB q) q.d1 (denAB q) q.a2 q.aa)
      (Scalar.select (condAC q) (redge (condAC q) q.d2 (denAC q) q.a2 q.cc)
        (Scalar.select (condBC q) (redge (condBC q) (numBC q) (denBC q) q.b2 q.ee) (rface q))))))

/-- The number of the feature. -/
def ty (q : Q) : BitVec 32 :=
  Scalar.select (condA q) 0#32 (Scalar.select (condB q) 1#32 (Scalar.select (condC q) 2#32
    (Scalar.select (condAB q) 3#32 (Scalar.select (condAC q) 4#32 (Scalar.select (condBC q) 5#32 6#32)))))

theorem bit (c : BitVec 1) : c = 1#1 ∨ c = 0#1 := by
  revert c; decide

theorem select_one {α : Type} (x y : α) : Scalar.select 1#1 x y = x := rfl
theorem select_zero {α : Type} (x y : α) : Scalar.select 0#1 x y = y := rfl

/-- The comparisons for being different agree, and so do the divisions. -/
theorem une_eq (x y : E) : FloatOps.cmpf (F := Ideal) .une x y = FloatOps.cmpf .one x y := rfl
theorem hostDivf_eq (x y : E) : FloatOps.hostDivf (F := Ideal) x y = FloatOps.divf x y := rfl

theorem or_00 : IntOp.ori (0#1) (0#1) = 0#1 := by decide
theorem or_01 : IntOp.ori (0#1) (1#1) = 1#1 := by decide
theorem or_10 : IntOp.ori (1#1) (0#1) = 1#1 := by decide
theorem or_11 : IntOp.ori (1#1) (1#1) = 1#1 := by decide
theorem and_1 (c : BitVec 1) : IntOp.andi 1#1 c = c := by
  rcases bit c with rfl | rfl <;> decide

theorem kface_eq (q : Q) : kface q = rface q := by
  unfold kface rface ktotal rtotal
  simp only [une_eq, hostDivf_eq]

/-- The two distances are the same. -/
theorem kdist_eq (q : Q) : kdist q = rdist q := by
  unfold kdist rdist kedge redge
  rw [kface_eq]
  rcases bit (condAB q) with h1 | h1 <;> rcases bit (condAC q) with h2 | h2 <;>
    rcases bit (condBC q) with h3 | h3 <;>
    simp only [h1, h2, h3, select_one, select_zero, or_00, or_01, or_10, or_11, and_1, une_eq, hostDivf_eq]

/-- The number of a feature is at most six. -/
theorem ty_le (q : Q) : (ty q).toNat ≤ 6 := by
  unfold ty Scalar.select
  split_ifs <;> decide

end Cert.Cell

end
-- ==== Proof.Geo.lean ====
/- The thirteen numbers of a point and a triangle, from their coordinates. -/
module

public import proofs.«01_k».proof.Proof.Cell

@[expose] public section

noncomputable section

namespace Cert.Cell
open Idealize.ShloMosaic

/-- A point or a vector of three coordinates. -/
abbrev V3 := Fin 3 → E

/-- Inner product and difference. -/
def dot (x y : V3) : E := ∑ k : Fin 3, x k * y k
def dif (x y : V3) : V3 := fun k => x k - y k

/-- The projection of `p - x` on an edge. -/
def proj (p x e : V3) : E := dot p e - dot x e

/-- The squared distance of two points, expanded. -/
def dsq (p x : V3) : E := (dot p p - two * dot p x) + dot x x

/-- The thirteen numbers. -/
def geo (p a b c : V3) : Q where
  d1 := proj p a (dif b a)
  d2 := proj p a (dif c a)
  d3 := proj p b (dif b a)
  d4 := proj p b (dif c a)
  d5 := proj p c (dif b a)
  d6 := proj p c (dif c a)
  a2 := dsq p a
  b2 := dsq p b
  c2 := dsq p c
  aa := dot (dif b a) (dif b a)
  cc := dot (dif c a) (dif c a)
  bb := dot (dif b a) (dif c a)
  ee := dot (dif c b) (dif c b)

end Cert.Cell

end
-- ==== Proof.RefBase.lean ====
/- The reference's buffers: the vocabulary in which its windows are read. -/
module

public import proofs.«01_k».proof.Proof.Gen.ReferenceIdeal
public import proofs.«01_k».proof.Proof.Fix
public import proofs.«01_k».proof.Proof.Geo

@[expose] public section

noncomputable section

namespace Cert.Ref

open Cert.ReferenceIdeal Cert.ReferenceIdeal.Gen Idealize.ShloMosaic Idealize.ShloMosaic.TcCoe Idealize.SL.Sem
open Idealize.ShloMosaic.StableHlo Cert.Fix

/-- Contents of all buffers. -/
abbrev Vals := Valuation τ sig (Elt Ideal)

/-- Matrices of one number for each point and triangle. -/
abbrev Big := FVec Ideal S8192x2048 .f32
abbrev BigB := IVec S8192x2048 1
abbrev Row := FVec Ideal S2048 .f32
abbrev Ix := S8192x2048.Idx

/-- A number for each triangle, copied to every point. -/
def rowB (v : Row) : Big :=
  broadcastInDim S8192x2048 ![0, 1] Facts₀.bcast_S1x2048_S8192x2048_0_1
    (broadcastInDim S1x2048 ![1] Facts₀.bcast_S2048_S1x2048_1 v)

theorem rowB_ix (v : Row) (i : Fin 8192) (l : Fin 2048) : rowB v (ix2 i l) = v (ix1 l) := by
  unfold rowB
  pointwise

/-- The points and the corners of the triangles. -/
def pP (W : Vals) (i : Fin 8192) : Cell.V3 := fun k => (W (Proc.devRef .tc main_arg0) : FVec Ideal S8192x3 .f32) (ix2 i k)
def pA (W : Vals) (l : Fin 2048) : Cell.V3 := fun k => (W (Proc.devRef .tc main_arg1) : FVec Ideal S2048x3 .f32) (ix2 l k)
def pB (W : Vals) (l : Fin 2048) : Cell.V3 := fun k => (W (Proc.devRef .tc main_arg2) : FVec Ideal S2048x3 .f32) (ix2 l k)
def pC (W : Vals) (l : Fin 2048) : Cell.V3 := fun k => (W (Proc.devRef .tc main_arg3) : FVec Ideal S2048x3 .f32) (ix2 l k)

/-- The thirteen numbers as the reference's buffers hold them. -/
def q (W : Vals) (ij : Ix) : Cell.Q where
  d1 := (W (Proc.devRef .tc main_v19) : Big) ij
  d2 := (W (Proc.devRef .tc main_v24) : Big) ij
  d3 := (W (Proc.devRef .tc main_v29) : Big) ij
  d4 := (W (Proc.devRef .tc main_v34) : Big) ij
  d5 := (W (Proc.devRef .tc main_v39) : Big) ij
  d6 := (W (Proc.devRef .tc main_v44) : Big) ij
  a2 := (W (Proc.devRef .tc main_v58) : Big) ij
  b2 := (W (Proc.devRef .tc main_v69) : Big) ij
  c2 := (W (Proc.devRef .tc main_v80) : Big) ij
  aa := rowB (W (Proc.devRef .tc main_v4)) ij
  cc := rowB (W (Proc.devRef .tc main_v6)) ij
  bb := rowB (W (Proc.devRef .tc main_v8)) ij
  ee := rowB (W (Proc.devRef .tc main_v10)) ij

end Cert.Ref

end
-- ==== Proof.Ref0.lean ====
/- The reference's first window: the edges, their products and the six projections. -/
module

public import proofs.«01_k».proof.Proof.RefBase

@[expose] public section

noncomputable section

namespace Cert.Ref

open Cert.ReferenceIdeal Cert.ReferenceIdeal.Gen Idealize.ShloMosaic Idealize.ShloMosaic.TcCoe Idealize.SL.Sem
open Idealize.ShloMosaic.StableHlo Cert.Fix Cert.Cell

/-- What the first window leaves. -/
structure Facts0 (W : Vals) : Prop where
  d1 : ∀ i l, (W (Proc.devRef .tc main_v19) : Big) (ix2 i l) = proj (pP W i) (pA W l) (dif (pB W l) (pA W l))
  d2 : ∀ i l, (W (Proc.devRef .tc main_v24) : Big) (ix2 i l) = proj (pP W i) (pA W l) (dif (pC W l) (pA W l))
  d3 : ∀ i l, (W (Proc.devRef .tc main_v29) : Big) (ix2 i l) = proj (pP W i) (pB W l) (dif (pB W l) (pA W l))
  d4 : ∀ i l, (W (Proc.devRef .tc main_v34) : Big) (ix2 i l) = proj (pP W i) (pB W l) (dif (pC W l) (pA W l))
  d5 : ∀ i l, (W (Proc.devRef .tc main_v39) : Big) (ix2 i l) = proj (pP W i) (pC W l) (dif (pB W l) (pA W l))
  d6 : ∀ i l, (W (Proc.devRef .tc main_v44) : Big) (ix2 i l) = proj (pP W i) (pC W l) (dif (pC W l) (pA W l))
  aa : ∀ l, (W (Proc.devRef .tc main_v4) : Row) (ix1 l) = dot (dif (pB W l) (pA W l)) (dif (pB W l) (pA W l))
  cc : ∀ l, (W (Proc.devRef .tc main_v6) : Row) (ix1 l) = dot (dif (pC W l) (pA W l)) (dif (pC W l) (pA W l))
  bb : ∀ l, (W (Proc.devRef .tc main_v8) : Row) (ix1 l) = dot (dif (pB W l) (pA W l)) (dif (pC W l) (pA W l))
  ee : ∀ l, (W (Proc.devRef .tc main_v10) : Row) (ix1 l) = dot (dif (pC W l) (pB W l)) (dif (pC W l) (pB W l))
  pp : ∀ i, (W (Proc.devRef .tc main_v47) : FVec Ideal S8192x1 .f32) (ix2 i 0) = dot (pP W i) (pP W i)
  at' : ∀ k l, (W (Proc.devRef .tc main_v48) : FVec Ideal S3x2048 .f32) (ix2 k l) = pA W l k

set_option maxRecDepth 4000 in
theorem part0 : ∃ ops : List (HloOp τ sig (Elt Ideal)), (∀ c, IsSeq (main_part0 (F := Ideal) c) ops) ∧ Line 4 ops 64 ∧
   ∀ W : Vals, (∀ op ∈ ops, op.result W = W) → Facts0 W := by
  apply Exists.intro; refine ⟨?_, ?_, ?_⟩
  · intro c
    unfold main_part0
    repeat (first | exact IsSeq.nil | exact seq_last | apply IsSeq.cons)
  · repeat (first | refine Line.cons (Step.binary _ _ _ _ (by decide) (by decide)) (by decide) ?_
                  | refine Line.cons (Step.unary _ _ _ (by decide)) (by decide) ?_
                  | refine Line.cons (Step.nullary _ _ _) (by decide) ?_)
    show _ ≤ _
    decide
  · intro W h
    simp only [List.forall_mem_cons, nullary_fix, unary_fix, binary_fix] at h
    obtain ⟨e0, e1, e2, e3, c, e4, e5, c0, e6, e7, c1, e8, e9, c2, e10, e11, e12, e13, e14, e15, c3, e16, e17,
      e18, e19, e20, c4, e21, e22, e23, e24, e25, c5, e26, e27, e28, e29, e30, c6, e31, e32, e33, e34, e35, c7,
      e36, e37, e38, e39, e40, c8, e41, e42, e43, e44, e45, c9, e46, e47, e48, -⟩ := h
    constructor
    · intro i l
      rw [e19, e12, e18, e17, e16, c3, e15, e11, e0]
      pointwise [proj, dot, dif, pP, pA, pB]
    · intro i l
      rw [e24, e14, e23, e22, e21, c4, e20, e13, e1]
      pointwise [proj, dot, dif, pP, pA, pC]
    · intro i l
      rw [e29, e12, e28, e27, e26, c5, e25, e11, e0]
      pointwise [proj, dot, dif, pP, pA, pB]
    · intro i l
      rw [e34, e14, e33, e32, e31, c6, e30, e13, e1]
      pointwise [proj, dot, dif, pP, pA, pB, pC]
    · intro i l
      rw [e39, e12, e38, e37, e36, c7, e35, e11, e0]
      pointwise [proj, dot, dif, pP, pA, pB, pC]
    · intro i l
      rw [e44, e14, e43, e42, e41, c8, e40, e13, e1]
      pointwise [proj, dot, dif, pP, pA, pC]
    · intro l
      rw [e4, c, e3, e0]
      pointwise [dot, dif, pA, pB]
    · intro l
      rw [e6, c0, e5, e1]
      pointwise [dot, dif, pA, pC]
    · intro l
      rw [e8, c1, e7, e0, e1]
      pointwise [dot, dif, pA, pB, pC]
    · intro l
      rw [e10, c2, e9, e2]
      pointwise [dot, dif, pB, pC]
    · intro i
      rw [e47, e46, c9, e45]
      pointwise [dot, pP]
    · intro k l
      rw [e48]
      pointwise [pA]

end Cert.Ref

end
-- ==== Proof.Ref1.lean ====
/- The reference's second window: the squared distances to the corners, the barycentric numbers and two regions. -/
module

public import proofs.«01_k».proof.Proof.Ref0

@[expose] public section

noncomputable section

namespace Cert.Ref

open Cert.ReferenceIdeal Cert.ReferenceIdeal.Gen Idealize.ShloMosaic Idealize.ShloMosaic.TcCoe Idealize.SL.Sem
open Idealize.ShloMosaic.StableHlo Cert.Fix Cert.Cell

/-- What the second window leaves. -/
structure Facts1 (W : Vals) : Prop where
  a2 : ∀ i l, (W (Proc.devRef .tc main_v58) : Big) (ix2 i l) = dsq (pP W i) (pA W l)
  b2 : ∀ i l, (W (Proc.devRef .tc main_v69) : Big) (ix2 i l) = dsq (pP W i) (pB W l)
  c2 : ∀ i l, (W (Proc.devRef .tc main_v80) : Big) (ix2 i l) = dsq (pP W i) (pC W l)
  vc : (W (Proc.devRef .tc main_v83) : Big) = fun ij => vc (q W ij)
  vb : (W (Proc.devRef .tc main_v86) : Big) = fun ij => vb (q W ij)
  va : (W (Proc.devRef .tc main_v89) : Big) = fun ij => va (q W ij)
  condA : (W (Proc.devRef .tc main_v94) : BigB) = fun ij => condA (q W ij)
  condB : (W (Proc.devRef .tc main_v98) : BigB) = fun ij => condB (q W ij)
  c19 : (W (Proc.devRef .tc main_cst_19) : FVec Ideal S_ .f32) = constant (F := Ideal) S_ .f32 0x00000000#32

set_option maxRecDepth 4000 in
theorem part1 : ∃ ops : List (HloOp τ sig (Elt Ideal)), (∀ c, IsSeq (main_part1 (F := Ideal) c) ops) ∧ Line 64 ops 124 ∧
   ∀ W : Vals, (∀ op ∈ ops, op.result W = W) → Facts0 W → Facts1 W := by
  apply Exists.intro; refine ⟨?_, ?_, ?_⟩
  · intro c
    unfold main_part1
    repeat (first | exact IsSeq.nil | exact seq_last | apply IsSeq.cons)
  · repeat (first | refine Line.cons (Step.binary _ _ _ _ (by decide) (by decide)) (by decide) ?_
                  | refine Line.cons (Step.unary _ _ _ (by decide)) (by decide) ?_
                  | refine Line.cons (Step.nullary _ _ _) (by decide) ?_)
    show _ ≤ _
    decide
  · intro W h f0
    simp only [List.forall_mem_cons, nullary_fix, unary_fix, binary_fix] at h
    obtain ⟨e49, c10, e50, e51, e52, e53, e54, c11, e55, e56, e57, e58, e59, e60, c12, e61, e62, e63, e64, e65,
      c13, e66, e67, e68, e69, e70, e71, c14, e72, e73, e74, e75, e76, c15, e77, e78, e79, e80, e81, e82, e83,
      e84, e85, e86, e87, e88, e89, c16, e90, e91, c17, e92, e93, e94, c18, e95, e96, e97, e98, c19, -⟩ := h
    constructor
    · intro i l
      rw [e58, e57, e56, e55, c11, e54, e53, e52, e51, e50, c10, e49]
      pointwise [dot, dsq, two]
      rw [f0.pp]
      simp only [f0.at']
      rfl
    · intro i l
      rw [e69, e68, e67, e66, c13, e65, e64, e63, e62, e61, c12, e60, e59]
      pointwise [dot, dsq, two]
      rw [f0.pp]
      rfl
    · intro i l
      rw [e80, e79, e78, e77, c15, e76, e75, e74, e73, e72, c14, e71, e70]
      pointwise [dot, dsq, two]
      rw [f0.pp]
      rfl
    · rw [e83, e82, e81]; rfl
    · rw [e86, e85, e84]; rfl
    · rw [e89, e88, e87]; rfl
    · rw [e94, e93, e92, e91, e90, c16, c17]; rfl
    · rw [e98, e97, e96, e95, c18]; rfl
    · rw [c19]

end Cert.Ref

end
-- ==== Proof.Ref2.lean ====
/- The reference's third window: the other four regions and the first edge. -/
module

public import proofs.«01_k».proof.Proof.Ref1

@[expose] public section

noncomputable section

namespace Cert.Ref

open Cert.ReferenceIdeal Cert.ReferenceIdeal.Gen Idealize.ShloMosaic Idealize.ShloMosaic.TcCoe Idealize.SL.Sem
open Idealize.ShloMosaic.StableHlo Cert.Fix Cert.Cell

/-- What the third window leaves. -/
structure Facts2 (W : Vals) : Prop where
  condC : (W (Proc.devRef .tc main_v102) : BigB) = fun ij => condC (q W ij)
  condAB : (W (Proc.devRef .tc main_v110) : BigB) = fun ij => condAB (q W ij)
  condAC : (W (Proc.devRef .tc main_v118) : BigB) = fun ij => condAC (q W ij)
  condBC : (W (Proc.devRef .tc main_v128) : BigB) = fun ij => condBC (q W ij)
  edgeAB : (W (Proc.devRef .tc main_v144) : Big) = fun ij =>
    redge (Cell.condAB (q W ij)) (q W ij).d1 (denAB (q W ij)) (q W ij).a2 (q W ij).aa
  denAC : (W (Proc.devRef .tc main_v145) : Big) = fun ij => denAC (q W ij)

set_option maxRecDepth 4000 in
theorem part2 : ∃ ops : List (HloOp τ sig (Elt Ideal)), (∀ c, IsSeq (main_part2 (F := Ideal) c) ops) ∧ Line 124 ops 188 ∧
   ∀ W : Vals, (∀ op ∈ ops, op.result W = W) → Facts1 W → Facts2 W := by
  apply Exists.intro; refine ⟨?_, ?_, ?_⟩
  · intro c
    unfold main_part2
    repeat (first | exact IsSeq.nil | exact seq_last | apply IsSeq.cons
                  | (apply seq_bind
                     · unfold fn_where.body; repeat (first | exact IsSeq.nil | apply IsSeq.cons)))
  · dsimp only [List.cons_append, List.nil_append]
    repeat (first | refine Line.cons (Step.binary _ _ _ _ (by decide) (by decide)) (by decide) ?_
                  | refine Line.cons (Step.unary _ _ _ (by decide)) (by decide) ?_
                  | refine Line.cons (Step.nullary _ _ _) (by decide) ?_
                  | refine Line.cons (Step.ternary _ _ _ _ _ (by decide) (by decide) (by decide)) (by decide) ?_)
    show _ ≤ _
    decide
  · intro W h f
    dsimp only [List.cons_append, List.nil_append] at h
    simp only [List.forall_mem_cons, TRef.unary, TRef.ternary, nullary_fix, unary_fix, binary_fix, ternary_fix] at h
    obtain ⟨e99, e100, e101, e102, c20, e103, e104, c21, e105, e106, e107, c22, e108, e109, e110, c23, e111,
      e112, c24, e113, e114, e115, c25, e116, e117, e118, c26, e119, e120, e121, c27, e122, e123, e124, e125,
      c28, e126, e127, e128, e129, c29, e130, e131, e132, c30, k0_0, k0_1, e133, e134, c31, k1_0, k1_1, e135,
      c32, e136, e137, e138, e139, e140, e141, e142, e143, e144, e145, -⟩ := h
    have hAB : (W (Proc.devRef .tc main_v110) : BigB) = fun ij => Cell.condAB (q W ij) := by
      rw [e110, e109, e108, c22, e107, e106, e105, c21, e104, e103, c20, f.vc]; rfl
    constructor
    · rw [e102, e101, e100, e99, f.c19]; rfl
    · exact hAB
    · rw [e118, e117, e116, c25, e115, e114, e113, c24, e112, e111, c23, f.vb]; rfl
    · rw [e128, e127, e126, c28, e125, e124, e123, e122, c27, e121, e120, e119, c26, f.va]; rfl
    · rw [e144, e143, e142, e141, e140, e139, e138, e137, e136, c32, e135, k1_1, k1_0, c31, e134, e133, k0_1, k0_0, c30, e132,
        e131, e130, c29, e129, hAB]
      rfl
    · rw [e145]; rfl

end Cert.Ref

end
-- ==== Proof.Ref3.lean ====
/- The reference's fourth window: the other two edges and the normalised barycentric numbers. -/
module

public import proofs.«01_k».proof.Proof.Ref2

@[expose] public section

noncomputable section

namespace Cert.Ref

open Cert.ReferenceIdeal Cert.ReferenceIdeal.Gen Idealize.ShloMosaic Idealize.ShloMosaic.TcCoe Idealize.SL.Sem
open Idealize.ShloMosaic.StableHlo Cert.Fix Cert.Cell

/-- The normalised barycentric numbers. -/
def rv (q : Cell.Q) : E := FloatOps.hostDivf (Cell.vb q) (rtotal q)
def rw' (q : Cell.Q) : E := FloatOps.hostDivf (Cell.vc q) (rtotal q)

/-- What the fourth window leaves. -/
structure Facts3 (W : Vals) : Prop where
  edgeAC : (W (Proc.devRef .tc main_v160) : Big) = fun ij =>
    redge (Cell.condAC (q W ij)) (q W ij).d2 (Cell.denAC (q W ij)) (q W ij).a2 (q W ij).cc
  edgeBC : (W (Proc.devRef .tc main_v179) : Big) = fun ij =>
    redge (Cell.condBC (q W ij)) (numBC (q W ij)) (denBC (q W ij)) (q W ij).b2 (q W ij).ee
  v : (W (Proc.devRef .tc main_v185) : Big) = fun ij => rv (q W ij)
  w : (W (Proc.devRef .tc main_v186) : Big) = fun ij => rw' (q W ij)
  s1 : (W (Proc.devRef .tc main_v190) : Big) = fun ij =>
    FloatOps.subf (q W ij).a2 (FloatOps.mulf (FloatOps.mulf two (rv (q W ij))) (q W ij).d1)
  s2 : (W (Proc.devRef .tc main_v193) : Big) = fun ij =>
    FloatOps.mulf (FloatOps.mulf two (rw' (q W ij))) (q W ij).d2

set_option maxRecDepth 4000 in
theorem part3 : ∃ ops : List (HloOp τ sig (Elt Ideal)), (∀ c, IsSeq (main_part3 (F := Ideal) c) ops) ∧ Line 188 ops 258 ∧
   ∀ W : Vals, (∀ op ∈ ops, op.result W = W) → Facts1 W → Facts2 W → Facts3 W := by
  apply Exists.intro; refine ⟨?_, ?_, ?_⟩
  · intro c
    unfold main_part3
    repeat (first | exact IsSeq.nil | exact seq_last | apply IsSeq.cons
                  | (apply seq_bind
                     · unfold fn_where.body; repeat (first | exact IsSeq.nil | apply IsSeq.cons)))
  · dsimp only [List.cons_append, List.nil_append]
    repeat (first | refine Line.cons (Step.binary _ _ _ _ (by decide) (by decide)) (by decide) ?_
                  | refine Line.cons (Step.unary _ _ _ (by decide)) (by decide) ?_
                  | refine Line.cons (Step.nullary _ _ _) (by decide) ?_
                  | refine Line.cons (Step.ternary _ _ _ _ _ (by decide) (by decide) (by decide)) (by decide) ?_)
    show _ ≤ _
    decide
  · intro W h f f2
    dsimp only [List.cons_append, List.nil_append] at h
    simp only [List.forall_mem_cons, TRef.unary, TRef.ternary, nullary_fix, unary_fix, binary_fix, ternary_fix] at h
    obtain ⟨c33, e146, e147, e148, c34, k2_0, k2_1, e149, e150, c35, k3_0, k3_1, e151, c36, e152, e153, e154,
      e155, e156, e157, e158, e159, e160, e161, e162, e163, e164, c37, e165, e166, e167, c38, k4_0, k4_1, e168,
      e169, c39, k5_0, k5_1, e170, c40, e171, e172, e173, e174, e175, e176, e177, e178, e179, e180, e181, c41,
      e182, e183, c42, k6_0, k6_1, e184, e185, e186, c43, e187, e188, e189, e190, c44, e191, e192, e193, -⟩ := h
    have hv : (W (Proc.devRef .tc main_v185) : Big) = fun ij => rv (q W ij) := by
      rw [e185, e184, k6_1, k6_0, c42, e183, e182, c41, e181, e180, f.va, f.vb, f.vc]; rfl
    have hw : (W (Proc.devRef .tc main_v186) : Big) = fun ij => rw' (q W ij) := by
      rw [e186, e184, k6_1, k6_0, c42, e183, e182, c41, e181, e180, f.va, f.vb, f.vc]; rfl
    constructor
    · rw [e160, e159, e158, e157, e156, e155, e154, e153, e152, c36, e151, k3_1, k3_0, c35, e150, e149, k2_1, k2_0, c34, e148,
        e147, e146, c33, f2.denAC, f2.condAC]
      rfl
    · rw [e179, e178, e177, e176, e175, e174, e173, e172, e171, c40, e170, k5_1, k5_0, c39, e169, e168, k4_1, k4_0, c38, e167,
        e166, e165, c37, e164, e163, e162, e161, f2.condBC]
      rfl
    · exact hv
    · exact hw
    · rw [e190, e189, e188, e187, c43, hv]; rfl
    · rw [e193, e192, e191, c44, hw]; rfl

end Cert.Ref

end
-- ==== Proof.Ref4.lean ====
/- The reference's last window: the choice among the regions, and the three results. -/
module

public import proofs.«01_k».proof.Proof.Ref3

@[expose] public section

noncomputable section

namespace Cert.Ref

open Cert.ReferenceIdeal Cert.ReferenceIdeal.Gen Idealize.ShloMosaic Idealize.ShloMosaic.TcCoe Idealize.SL.Sem
open Idealize.ShloMosaic.StableHlo Cert.Fix Cert.Cell

/-- Words for each point and triangle, and for each point. -/
abbrev BigW := IVec S8192x2048 32
abbrev ColW := IVec S8192 32

/-- The least number of each point. -/
def dminOf (x : Big) : FVec Ideal S8192 .f32 :=
  Host.reduce FloatOps.minimumf x (constant S_ .f32 0x7F800000#32) Facts₀.reducesTo_S8192x2048_S8192_d1 Facts₀.h_S_

/-- Where it stands first. -/
def aminOf (x : Big) : ColW := fun j =>
  (Host.argReduce reducer_argmin_f32_i32 x (iotaInDim S8192x2048 32 1) (constant S_ .f32 0x7F800000#32)
    (constantI S_ 32 0#32) Facts₀.reducesTo_S8192x2048_S8192_d1 Facts₀.h_S_ j).2

/-- The place as the gather takes it: counted from the end when negative. -/
def placeOf (i : ColW) : IVec S8192x1x1 32 :=
  let c := broadcastInDim S8192x1 ![0] Facts₀.bcast_S8192_S8192x1_0 i
  shapeCast S8192x1x1 (select (cmpi .slt c (broadcastInDim S8192x1 ![] Facts₀.bcast_S_S8192x1 (constantI S_ 32 0#32)))
    (addi c (broadcastInDim S8192x1 ![] Facts₀.bcast_S_S8192x1 (constantI S_ 32 2048#32))) c) Facts₀.shapeCasts_S8192x1_S8192x1x1

/-- Whether the place lies in the row. -/
def insideOf (p : IVec S8192x1x1 32) : IVec S8192x1 1 :=
  Host.reduce IntOp.andi
    (andi (cmpi .sge p (broadcastInDim S8192x1x1 ![] Facts₀.bcast_S_S8192x1x1 (constantI S_ 32 0#32)))
      (cmpi .sle p (broadcastInDim S8192x1x1 ![0, 1, 2] Facts₀.bcast_S1x1x1_S8192x1x1_0_1_2
        (broadcastInDim S1x1x1 ![2] Facts₀.bcast_S1_S1x1x1_2 (constantI S1 32 2047#32)))))
    (constantI S_ 1 1#1) Facts₀.reducesTo_S8192x1x1_S8192x1_d2 Facts₀.h_S_

/-- The word of each row at a place. -/
def takeOf (t : BigW) (i : ColW) : ColW :=
  shapeCast S8192 (select (insideOf (placeOf i))
    (Host.gather gather_S8192x2048_S8192x1x1_S8192x1_n_1_0_0_1_2_11 t (placeOf i))
    (broadcastInDim S8192x1 ![] Facts₀.bcast_S_S8192x1 (constantI S_ 32 2147483648#32))) Facts₀.shapeCasts_S8192x1_S8192

/-- The squared distances, none below zero, and the features. -/
def dists (W : Vals) : Big := fun ij => FloatOps.maximumf (rdist (q W ij)) zero
def types (W : Vals) : BigW := fun ij => ty (q W ij)

/-- What the last window leaves. -/
structure Facts4 (W : Vals) : Prop where
  dmin : (W (Proc.devRef .tc main_v227) : FVec Ideal S8192 .f32) = dminOf (dists W)
  amin : (W (Proc.devRef .tc main_v228) : ColW) = aminOf (dists W)
  tsel : (W (Proc.devRef .tc main_v231) : ColW) = takeOf (types W) (aminOf (dists W))

set_option maxRecDepth 4000 in
set_option maxHeartbeats 2000000 in
theorem part4 : ∃ ops : List (HloOp τ sig (Elt Ideal)), (∀ c, IsSeq (main_part4 (F := Ideal) c) ops) ∧ Line 258 ops 343 ∧
   ∀ W : Vals, (∀ op ∈ ops, op.result W = W) → Facts1 W → Facts2 W → Facts3 W → Facts4 W := by
  apply Exists.intro; refine ⟨?_, ?_, ?_⟩
  · intro c
    unfold main_part4
    repeat (first | exact IsSeq.nil | exact seq_last | apply IsSeq.cons
                  | (apply seq_bind
                     · first | unfold fn_where_0.body | unfold fn_where_1.body | unfold fn_argmin.body
                             | unfold fn_take_along_axis.body
                       repeat (first | exact IsSeq.nil | apply IsSeq.cons)))
  · simp only [List.cons_append, List.nil_append, TRef.nullary, TRef.unary, TRef.binary, TRef.ternary, TRef.quaternary,
      TRef.reshape]
    repeat (first | with_reducible refine Line.cons (Step.binary _ _ _ _ (by decide) (by decide)) (by decide) ?_
                  | with_reducible refine Line.cons (Step.unary _ _ _ (by decide)) (by decide) ?_
                  | with_reducible refine Line.cons (Step.nullary _ _ _) (by decide) ?_
                  | with_reducible refine Line.cons (Step.ternary _ _ _ _ _ (by decide) (by decide) (by decide)) (by decide) ?_
                  | with_reducible refine Line.cons (Step.quaternary _ _ _ _ _ _ (by decide) (by decide) (by decide) (by decide)) (by decide) ?_
                  | with_reducible refine Line.cons (Step.reshape _ _ _ _ (by decide)) (by decide) ?_)
    show _ ≤ _
    decide
  · intro W h f f2 f3
    dsimp only [List.cons_append, List.nil_append] at h
    simp only [List.forall_mem_cons, TRef.nullary, TRef.unary, TRef.binary, TRef.ternary, TRef.quaternary, TRef.reshape,
      nullary_fix, unary_fix, binary_fix, ternary_fix, quaternary_fix, reshape_fix] at h
    obtain ⟨e194, e195, e196, e197, e198, e199, c45, e200, e201, e202, e203, e204, e205, e206, e207, e208, e209,
      e210, e211, c, e212, e213, c46, k214_0, k214_1, e214, e215, c47, k216_0, k216_1, e216, e217, c48, k218_0,
      k218_1, e218, e219, c49, k220_0, k220_1, e220, e221, c50, k222_0, k222_1, e222, e223, c51, k224_0, k224_1,
      e224, c52, e225, e226, c53, e227, a0, acst, ac, a10, e228, e229, tc, t0, t1, tc0, t2, t3, t4, t5, tc1,
      tc2, t6, t7, t8, t9, t10, t11, tc3, t12, t13, tc4, t14, e230, e231, -⟩ := h
    have hd : (W (Proc.devRef .tc main_v226) : Big) = dists W := by
      rw [e226, e225, c52, e223, f.condA, e221, f.condB, e219, f2.condC, e217, f2.condAB, f2.edgeAB, e215, f2.condAC, f3.edgeAC,
        e213, f2.condBC, f3.edgeBC, e211, e210, e209, e208, e207, e206, e205, e204, e203, e202, e201, e200, c45, e199, e198,
        e197, e196, e195, e194, f3.s1, f3.s2, f3.v, f3.w]
      rfl
    have ht : (W (Proc.devRef .tc main_v224) : BigW) = types W := by
      rw [e224, k224_1, k224_0, c51, e222, k222_1, k222_0, c50, e220, k220_1, k220_0, c49, e218, k218_1, k218_0, c48,
        e216, k216_1, k216_0, c47, e214, k214_1, k214_0, c46, e212, c, f.condA, f.condB, f2.condC, f2.condAB, f2.condAC, f2.condBC]
      rfl
    have ha : (W (Proc.devRef .tc main_v228) : ColW) = aminOf (dists W) := by
      rw [e228, a0, acst, ac, hd]
      rfl
    constructor
    · rw [e227, c53, hd]; rfl
    · exact ha
    · rw [e231, e230, t12, t11, t7, t6, tc2, t10, t9, t8, tc1, tc3, t13, ht, t14, tc4, t5, t4, t1, t0, tc, t3, t2, tc0, e229, ha]
      simp -implicitDefEqProofs only [TRef.toBuf, TRef.ofBuf, cast_cast, cast_eq]
      clear * - W
      rfl

end Cert.Ref

end
-- ==== Proof.RefMain.lean ====
/- The reference's run: its five windows as one line of host operations, and what the line leaves. -/
module

public import proofs.«01_k».proof.Proof.Ref4
public import Idealize.ShloMosaic.Lib.Quiescent

@[expose] public section

noncomputable section

namespace Cert.Ref

open Cert.ReferenceIdeal Cert.ReferenceIdeal.Gen Idealize.ShloMosaic Idealize.ShloMosaic.TcCoe Idealize.SL.Sem
open Idealize.ShloMosaic.StableHlo Cert.Fix Cert.Cell

/-- The distances and the features in terms of the coordinates, and the three results. -/
structure Out (W : Vals) : Prop where
  q : ∀ i l, q W (ix2 i l) = geo (pP W i) (pA W l) (pB W l) (pC W l)
  res : Facts4 W

theorem out_of {W : Vals} (f0 : Facts0 W) (f1 : Facts1 W) (f4 : Facts4 W) : Out W where
  q i l := by
    unfold Ref.q geo
    simp only [rowB_ix]
    rw [f0.d1, f0.d2, f0.d3, f0.d4, f0.d5, f0.d6, f1.a2, f1.b2, f1.c2, f0.aa, f0.cc, f0.bb, f0.ee]
  res := f4

/-- The whole program is one line, and its equations give the results. -/
theorem line : ∃ ops : List (HloOp τ sig (Elt Ideal)), (∀ c, IsSeq (main (F := Ideal) c) ops) ∧ Line 4 ops 343 ∧
    ∀ W : Vals, (∀ op ∈ ops, op.result W = W) → Out W := by
  obtain ⟨o0, s0, l0, f0⟩ := part0
  obtain ⟨o1, s1, l1, f1⟩ := part1
  obtain ⟨o2, s2, l2, f2⟩ := part2
  obtain ⟨o3, s3, l3, f3⟩ := part3
  obtain ⟨o4, s4, l4, f4⟩ := part4
  refine ⟨o0 ++ (o1 ++ (o2 ++ (o3 ++ o4))), fun c => ?_, l0.append (l1.append (l2.append (l3.append l4))), fun W h => ?_⟩
  · exact seq_bind (s0 c) (seq_bind (s1 c) (seq_bind (s2 c) (seq_bind (s3 c) (s4 c))))
  · simp only [List.mem_append] at h
    have g0 := f0 W fun op m => h op (.inl m)
    have g1 := f1 W (fun op m => h op (.inr (.inl m))) g0
    have g2 := f2 W (fun op m => h op (.inr (.inr (.inl m)))) g1
    have g3 := f3 W (fun op m => h op (.inr (.inr (.inr (.inl m))))) g1 g2
    exact out_of g0 g1 (f4 W (fun op m => h op (.inr (.inr (.inr (.inr m))))) g1 g2 g3)

/-- The program runs, and ends in contents that satisfy the equations and have the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD, ∃ W : Vals, Out W ∧
      (∀ b : Ref sig .tc, r.2.mem ((c.tc : Thread nD τ).loc b) = W (Proc.devRef .tc b)) ∧
      W (Proc.devRef .tc main_arg0) = m ((c.tc : Thread nD τ).loc main_arg0) ∧
      W (Proc.devRef .tc main_arg1) = m ((c.tc : Thread nD τ).loc main_arg1) ∧
      W (Proc.devRef .tc main_arg2) = m ((c.tc : Thread nD τ).loc main_arg2) ∧
      W (Proc.devRef .tc main_arg3) = m ((c.tc : Thread nD τ).loc main_arg3) := by
  obtain ⟨ops, hs, hl, hf⟩ := line
  refine (θ_run defs _ _).mono (fun r h c => ⟨after ops (launchContents m c), hf _ (hl.fixed _), h c, ?_, ?_, ?_, ?_⟩)
    (run_hlo defs main hs (by decide) (by decide) (List.forall_iff_forall_mem.mpr hl.sub) hl.fresh m ρ)
  · exact (hl.after_low _ (by decide)).trans rfl
  · exact (hl.after_low _ (by decide)).trans rfl
  · exact (hl.after_low _ (by decide)).trans rfl
  · exact (hl.after_low _ (by decide)).trans rfl

/-- The program runs, leaves its arguments alone, and no counter is raised: it has none. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 := by
  refine (θ_run defs _ _).mono (fun r h => ⟨fun c => ?_, sem_eq_zero_of_no_sems (by decide) r.2⟩) (run m ρ)
  obtain ⟨W, -, hb, h0, h1, h2, h3⟩ := h c
  exact ⟨(hb _).trans h0, (hb _).trans h1, (hb _).trans h2, (hb _).trans h3⟩

end Cert.Ref

end
-- ==== Proof.Choice.lean ====
/- The choice among the triangles: the least distance, the first triangle at it, and the code in which
   the kernel carries the triangle's number and the feature together. -/
module

public import proofs.«01_k».proof.Proof.Cell

@[expose] public section

noncomputable section

namespace Cert.Choice

open Idealize.ShloMosaic Cert.Cell

/-- The triangles. -/
abbrev L := Fin 2048

/-- The value from which a minimum starts. -/
def top : E := Ideal.ofBits .f32 0x7F800000#32

theorem top_eq : top = (⊤ : EReal) := by simp [top, Ideal.ofBits, Ideal.ieee]
theorem zero_eq : zero = (0 : EReal) := by simp [zero]

/-- The least of a row of numbers, and the numbers no less than zero. -/
def least (f : L → E) : E := Finset.univ.fold min top f
def clamp (f : L → E) (l : L) : E := max (f l) zero

/-- The kernel's least distance, and its least code. -/
def rowMin (f : L → E) : E := max (least f) zero
def code (f : L → E) (g : L → BitVec 32) (l : L) : BitVec 32 :=
  if f l ≤ rowMin f then IntOp.addi (IntOp.muli (BitVec.ofNat 32 l.val) 8#32) (g l) else 1073741824#32
def rowCode (f : L → E) (g : L → BitVec 32) : BitVec 32 := Finset.univ.fold IntOp.minsi 2147483647#32 (code f g)

/-- Raising to zero before or after the minimum is the same. -/
theorem rowMin_eq (f : L → E) : rowMin f = least (clamp f) := by
  have h := Finset.fold_hom (op := min) (op' := min) (m := fun x : E => max x zero) (s := (Finset.univ : Finset L))
    (b := top) (f := f) fun x y => max_min_distrib_right x y zero
  have t : max top zero = top := by
    rw [top_eq]
    exact max_eq_left le_top
  rw [t] at h
  exact h.symm

/-- `j` is the first triangle at the least number. -/
def First (d : L → E) (j : L) : Prop := (∀ l, d j ≤ d l) ∧ ∀ l, l < j → d j < d l

theorem exists_first (d : L → E) : ∃ j, First d j := by
  classical
  obtain ⟨k, -, hk⟩ := Finset.exists_min_image Finset.univ d Finset.univ_nonempty
  let s : Finset L := Finset.univ.filter fun j => d j = d k
  have hs : s.Nonempty := ⟨k, by simp [s]⟩
  have hm : d (s.min' hs) = d k := (Finset.mem_filter.mp (s.min'_mem hs)).2
  refine ⟨s.min' hs, fun l => hm.trans_le (hk l (Finset.mem_univ l)), fun l hl => ?_⟩
  rw [hm]
  refine lt_of_le_of_ne (hk l (Finset.mem_univ l)) fun e => ?_
  exact absurd (s.min'_le l (by simp [s, e])) (not_le.mpr hl)

/-- That triangle. -/
def first (d : L → E) : L := Classical.choose (exists_first d)

theorem first_spec (d : L → E) : First d (first d) := Classical.choose_spec (exists_first d)

theorem least_eq {d : L → E} {j : L} (h : First d j) : least d = d j := by
  refine le_antisymm ((Finset.fold_min_le _).mpr (.inr ⟨j, Finset.mem_univ j, le_rfl⟩)) ?_
  exact (Finset.le_fold_min _).mpr ⟨by rw [top_eq]; exact le_top, fun l _ => h.1 l⟩

/-- A distance is at most the least one exactly where the raised distance is the least raised one. -/
theorem le_rowMin {f : L → E} {j : L} (h : First (clamp f) j) (l : L) : f l ≤ rowMin f ↔ clamp f l ≤ clamp f j := by
  rw [rowMin_eq, least_eq h]
  refine ⟨fun hl => max_le hl (le_max_right _ _), fun hl => (le_max_left _ _).trans hl⟩

/-! ## The code -/

theorem toInt_small {w : BitVec 32} (h : w.toNat < 2 ^ 31) : w.toInt = (w.toNat : ℤ) :=
  BitVec.toInt_eq_toNat_of_lt (by omega)

theorem minsi_toInt (x y : BitVec 32) : (IntOp.minsi x y).toInt = min x.toInt y.toInt := by
  unfold IntOp.minsi
  by_cases h : x.toInt < y.toInt
  · rw [if_pos (BitVec.slt_iff_toInt_lt.mpr h), min_eq_left h.le]
  · rw [if_neg (fun e => h (BitVec.slt_iff_toInt_lt.mp e)), min_eq_right (not_lt.mp h)]

theorem fold_minsi (c : L → BitVec 32) (b : BitVec 32) (j : L) (hb : (c j).toInt ≤ b.toInt)
    (h : ∀ l, (c j).toInt ≤ (c l).toInt) : Finset.univ.fold IntOp.minsi b c = c j := by
  apply BitVec.toInt_inj.mp
  have e := Finset.fold_hom (op := IntOp.minsi) (op' := min) (m := fun x : BitVec 32 => x.toInt)
    (s := (Finset.univ : Finset L)) (b := b) (f := c) minsi_toInt
  refine e.symm.trans (le_antisymm ((Finset.fold_min_le _).mpr (.inr ⟨j, Finset.mem_univ j, le_rfl⟩)) ?_)
  exact (Finset.le_fold_min _).mpr ⟨hb, fun l _ => h l⟩

theorem word_toNat (l : L) (t : BitVec 32) (ht : t.toNat ≤ 6) :
    (IntOp.addi (IntOp.muli (BitVec.ofNat 32 l.val) 8#32) t).toNat = 8 * l.val + t.toNat := by
  have hl := l.isLt
  show ((BitVec.ofNat 32 l.val * 8#32) + t).toNat = _
  rw [BitVec.toNat_add, BitVec.toNat_mul, BitVec.toNat_ofNat, BitVec.toNat_ofNat]
  omega

/-- The least code is that of the first triangle at the least distance. -/
theorem rowCode_eq {f : L → E} {g : L → BitVec 32} (hg : ∀ l, (g l).toNat ≤ 6) {j : L} (h : First (clamp f) j) :
    rowCode f g = BitVec.ofNat 32 (8 * j.val + (g j).toNat) := by
  have hc : ∀ l, clamp f l ≤ clamp f j → (code f g l).toNat = 8 * l.val + (g l).toNat := fun l hl => by
    unfold code
    rw [if_pos ((le_rowMin h l).mpr hl), word_toNat l (g l) (hg l)]
  have hf : ∀ l, ¬ clamp f l ≤ clamp f j → (code f g l).toNat = 1073741824 := fun l hl => by
    unfold code
    rw [if_neg fun e => hl ((le_rowMin h l).mp e)]
    rfl
  have hj := hc j le_rfl
  have bj := hg j
  have lj := j.isLt
  have ij : (code f g j).toInt = ((8 * j.val + (g j).toNat : ℕ) : ℤ) := by
    rw [toInt_small (by omega), hj]
  have e : rowCode f g = code f g j := by
    refine fold_minsi _ _ j ?_ fun l => ?_
    · rw [ij, show (2147483647#32 : BitVec 32).toInt = 2147483647 by decide]
      omega
    · have bl := hg l
      have ll := l.isLt
      by_cases hl : clamp f l ≤ clamp f j
      · have hjl : j.val ≤ l.val := by
          by_contra hn
          exact absurd hl (not_le.mpr (h.2 l (Fin.lt_def.mpr (by omega))))
        rw [ij, toInt_small (by rw [hc l hl]; omega), hc l hl]
        rcases Nat.lt_or_eq_of_le hjl with hlt | heq
        · omega
        · have : j = l := Fin.ext heq
          subst this; exact le_rfl
      · rw [ij, toInt_small (by rw [hf l hl]; omega), hf l hl]
        omega
  rw [e]
  apply BitVec.eq_of_toNat_eq
  rw [hj, BitVec.toNat_ofNat]
  omega

/-- Of a word that is not negative the rounding correction of a quotient changes nothing. -/
theorem floor_nonneg (n : Nat) (hn : n < 2 ^ 31) (r q : BitVec 32) (hr : n = 0 → r = 0#32) :
    Scalar.select (IntOp.andi (IntOp.cmpi .ne (IntOp.subi ((IntOp.cmpi .sgt (BitVec.ofNat 32 n) 0#32).setWidth 32)
      ((IntOp.cmpi .slt (BitVec.ofNat 32 n) 0#32).setWidth 32)) 1#32) (IntOp.cmpi .ne r 0#32)) (IntOp.subi q 1#32) q = q := by
  have hi : (BitVec.ofNat 32 n).toInt = (n : ℤ) := by
    rw [toInt_small (by rw [BitVec.toNat_ofNat]; omega), BitVec.toNat_ofNat]
    omega
  rcases Nat.eq_zero_or_pos n with h0 | hp
  · rw [hr h0]
    subst h0
    rfl
  · have hs : (BitVec.ofNat 32 n).slt 0#32 = false :=
      Bool.eq_false_iff.mpr fun e => absurd (BitVec.slt_iff_toInt_lt.mp e) (by rw [hi, BitVec.toInt_zero]; omega)
    have hg : (0#32).slt (BitVec.ofNat 32 n) = true := BitVec.slt_iff_toInt_lt.mpr (by rw [hi, BitVec.toInt_zero]; omega)
    have e1 : IntOp.cmpi .slt (BitVec.ofNat 32 n) 0#32 = 0#1 := congrArg BitVec.ofBool hs
    have e2 : IntOp.cmpi .sgt (BitVec.ofNat 32 n) 0#32 = 1#1 := congrArg BitVec.ofBool hg
    rw [e1, e2]
    rcases bit (IntOp.cmpi .ne r 0#32) with e | e <;> rw [e] <;> rfl

/-! ## The first least, by a fold over numbered values -/

/-- A number with its place, and their order: by the number, and then by the place. -/
abbrev P := E × BitVec 32
def key (p : P) : EReal ×ₗ ℤ := toLex (p.1, p.2.toInt)

theorem key_lt (a b : P) : key a < key b ↔ a.1 < b.1 ∨ a.1 = b.1 ∧ a.2.toInt < b.2.toInt := Prod.Lex.toLex_lt_toLex

/-- A fold that keeps the lesser of two ends at a least element. -/
theorem foldl_key (f : P → P → P) (hf : ∀ a b, f a b = if key a < key b then a else b) :
    ∀ (l : List P) (a : P), (l.foldl f a = a ∨ l.foldl f a ∈ l) ∧ key (l.foldl f a) ≤ key a ∧
      ∀ p ∈ l, key (l.foldl f a) ≤ key p
  | [], a => ⟨.inl rfl, le_rfl, fun p hp => absurd hp List.not_mem_nil⟩
  | b :: l, a => by
    obtain ⟨h1, h2, h3⟩ := foldl_key f hf l (f a b)
    rw [List.foldl_cons]
    have hm : key (f a b) ≤ key a ∧ key (f a b) ≤ key b ∧ (f a b = a ∨ f a b = b) := by
      rw [hf]
      split_ifs with h
      · exact ⟨le_rfl, h.le, .inl rfl⟩
      · exact ⟨not_lt.mp h, le_rfl, .inr rfl⟩
    refine ⟨?_, h2.trans hm.1, fun p hp => ?_⟩
    · rcases h1 with h1 | h1
      · rw [h1]
        rcases hm.2.2 with e | e
        · exact .inl e
        · exact .inr (by rw [e]; exact List.mem_cons_self)
      · exact .inr (List.mem_cons_of_mem _ h1)
    · rcases List.mem_cons.mp hp with rfl | hp
      · exact h2.trans hm.2.1
      · exact h3 p hp

theorem place_toInt (l : L) : (BitVec.ofNat 32 l.val).toInt = (l.val : ℤ) := by
  have := l.isLt
  rw [toInt_small (by rw [BitVec.toNat_ofNat]; omega), BitVec.toNat_ofNat]
  omega

/-- Over the numbered row, started at the top and the place zero, the fold ends at the first least place. -/
theorem foldl_first (f : P → P → P) (hf : ∀ a b, f a b = if key a < key b then a else b) (d : L → E) (l : List P)
    (hl : ∀ p, p ∈ l ↔ ∃ k : L, p = (d k, BitVec.ofNat 32 k.val)) {j : L} (h : First d j) :
    (l.foldl f (top, 0#32)).2 = BitVec.ofNat 32 j.val := by
  obtain ⟨h1, -, h3⟩ := foldl_key f hf l (top, 0#32)
  have hj := not_lt.mpr (h3 (d j, BitVec.ofNat 32 j.val) ((hl _).mpr ⟨j, rfl⟩))
  rw [key_lt, not_or, not_and] at hj
  obtain ⟨a1, a2⟩ := hj
  rcases h1 with e | m
  · rw [e] at a1 ⊢
    have ht : d j = (⊤ : EReal) := by
      rw [top_eq] at a1
      exact top_le_iff.mp (not_lt.mp a1)
    have : j = 0 := by
      by_contra hn
      have hz := h.2 0 (Fin.pos_iff_ne_zero.mpr hn)
      rw [ht] at hz
      exact absurd hz not_top_lt
    subst this; rfl
  · obtain ⟨k, e⟩ := (hl _).mp m
    rw [e] at a1 a2 ⊢
    have he : d j = d k := le_antisymm (h.1 k) (not_lt.mp a1)
    have hkj := a2 he
    rw [place_toInt, place_toInt] at hkj
    have : k = j := by
      rcases lt_trichotomy k j with hlt | rfl | hgt
      · exact absurd he (h.2 k hlt).ne
      · rfl
      · exact absurd (by exact_mod_cast hgt) hkj
    rw [this]

end Cert.Choice

end
-- ==== Proof.RefVal.lean ====
/- The reference's three results at a point. -/
module

public import proofs.«01_k».proof.Proof.RefMain
public import proofs.«01_k».proof.Proof.Choice
public import Idealize.ShloMosaic.Lib.ReduceAll

@[expose] public section

noncomputable section

namespace Cert.Ref

open Cert.ReferenceIdeal Cert.ReferenceIdeal.Gen Idealize.ShloMosaic Idealize.ShloMosaic.TcCoe Idealize.SL.Sem
open Idealize.ShloMosaic.StableHlo Cert.Fix Cert.Cell Cert.Choice

/-- The row of a point. -/
def row {α : Type} (x : S8192x2048.Idx → α) (i : Fin 8192) (l : Fin 2048) : α := x (ix2 i l)

theorem dmin_at (x : Big) (i : Fin 8192) : dminOf x (ix1 i) = least (row x i) := by
  unfold dminOf least row
  pointwise
  rfl

/-- The comparison of the search keeps the lesser of two numbers, and of equal ones the lesser place. -/
theorem lesser (a b : P) : reducer_argmin_f32_i32 (F := Ideal) a b = if key a < key b then a else b := by
  obtain ⟨a1, a2⟩ := a
  obtain ⟨b1, b2⟩ := b
  have hs : IntOp.cmpi .slt a2 b2 = BitVec.ofBool (decide (a2.toInt < b2.toInt)) := rfl
  have h1 : (FloatOps.cmpf .olt a1 b1 : BitVec 1) = BitVec.ofBool (decide (a1 < b1)) := rfl
  have h2 : (FloatOps.cmpf .une a1 a1 : BitVec 1) = BitVec.ofBool (decide (a1 ≠ a1)) := rfl
  have h3 : (FloatOps.cmpf .oeq a1 b1 : BitVec 1) = BitVec.ofBool (decide (a1 = b1)) := rfl
  simp only [reducer_argmin_f32_i32, hs, h1, h2, h3, key_lt]
  by_cases c1 : a1 < b1
  · simp only [c1, c1.ne, ne_eq, not_true_eq_false, decide_true, decide_false, true_or, if_true, false_and, Bool.false_and]
    rcases bit (BitVec.ofBool (decide (a2.toInt < b2.toInt))) with e | e <;> rw [e] <;> rfl
  · by_cases c2 : a1 = b1
    · by_cases c3 : a2.toInt < b2.toInt <;> simp [c2, c3, Scalar.select, IntOp.ori, IntOp.andi]
    · simp [c1, c2, Scalar.select, IntOp.ori, IntOp.andi]

/-- The numbered row of a point is what the search runs over. -/
theorem fiber (x : Big) (i : Fin 8192) (p : P) :
    p ∈ Host.argReduceFiber x (iotaInDim S8192x2048 32 1) Facts₀.reducesTo_S8192x2048_S8192_d1 (ix1 i) ↔
      ∃ k : L, p = (row x i k, BitVec.ofNat 32 k.val) := by
  have hd : ∀ (r : Fin 8192) (k : Fin 2048), Facts₀.reducesTo_S8192x2048_S8192_d1.drop (ix2 r k : S8192x2048.Idx) = ix1 r := by
    intro r k
    funext a
    match a with
    | ⟨0, _⟩ => rfl
  unfold Host.argReduceFiber
  simp only [List.mem_map, List.mem_filter, List.mem_finRange, true_and, decide_eq_true_eq]
  constructor
  · rintro ⟨n, hn, rfl⟩
    generalize (S8192x2048.rowMajor.symm n) = z at hn ⊢
    obtain ⟨r, k, rfl⟩ : ∃ (r : Fin 8192) (k : Fin 2048), z = ix2 r k := ⟨z 0, z 1, funext fun
      | ⟨0, _⟩ => rfl
      | ⟨1, _⟩ => rfl⟩
    rw [hd] at hn
    have : r = i := congrFun hn 0
    subst this
    exact ⟨k, rfl⟩
  · rintro ⟨k, rfl⟩
    refine ⟨S8192x2048.rowMajor (ix2 i k), ?_, ?_⟩
    · rw [Equiv.symm_apply_apply]; exact hd i k
    · rw [Equiv.symm_apply_apply]; rfl

/-- What the search starts from. -/
theorem start_top (h : 0 < S_.numel) : (constant (F := Ideal) S_ .f32 0x7F800000#32) (Shape.Idx.first h) = top := rfl
theorem start_place (h : 0 < S_.numel) : (constantI S_ 32 0#32) (Shape.Idx.first h) = 0#32 := rfl

/-- A search whose fiber is a numbered row ends at the first least place. -/
theorem search_at {s t u : Shape} {axes : List (Fin s.rank)} (f : P → P → P)
    (hf : ∀ a b, f a b = if key a < key b then a else b) (x : FVec Ideal s .f32) (y : IVec s 32)
    (ix : FVec Ideal u .f32) (iy : IVec u 32) (h : s.ReducesTo axes t) (hu : 0 < u.numel) (j : t.Idx) (d : L → E)
    (hx : ix (Shape.Idx.first hu) = top) (hy : iy (Shape.Idx.first hu) = 0#32)
    (hl : ∀ p : P, p ∈ Host.argReduceFiber x y h j ↔ ∃ k : L, p = (d k, BitVec.ofNat 32 k.val)) {k : L} (hk : First d k) :
    (Host.argReduce f x y ix iy h hu j).2 = BitVec.ofNat 32 k.val := by
  rw [Ideal.argReduce_eq_reduce2, Host.reduce2_eq_foldl_fiber, hx, hy]
  exact foldl_first f hf d _ hl hk

theorem amin_fun (x : Big) : aminOf x = fun j => (Host.argReduce reducer_argmin_f32_i32 x (iotaInDim S8192x2048 32 1)
    (constant S_ .f32 0x7F800000#32) (constantI S_ 32 0#32) Facts₀.reducesTo_S8192x2048_S8192_d1 Facts₀.h_S_ j).2 := rfl

theorem amin_at (x : Big) (i : Fin 8192) {j : L} (h : First (row x i) j) : aminOf x (ix1 i) = BitVec.ofNat 32 j.val := by
  rw [amin_fun]
  exact search_at _ lesser x (iotaInDim S8192x2048 32 1) (constant S_ .f32 0x7F800000#32) (constantI S_ 32 0#32)
    Facts₀.reducesTo_S8192x2048_S8192_d1 Facts₀.h_S_ (ix1 i) (row x i) (start_top _) (start_place _) (fiber x i) h

/-! ## The feature at a place -/

variable (a : ColW) (f : Fin 8192 → L) (ha : ∀ i, a (ix1 i) = BitVec.ofNat 32 (f i).val)

include ha

/-- A place that is not negative stays. -/
theorem place_at (i : Fin 8192) : placeOf a (ix3 i 0 0) = BitVec.ofNat 32 (f i).val := by
  have e : placeOf a (ix3 i 0 0) = Scalar.select (IntOp.cmpi .slt (a (ix1 i)) 0#32) (IntOp.addi (a (ix1 i)) 2048#32) (a (ix1 i)) := by
    unfold placeOf
    pointwise
  have hs : IntOp.cmpi .slt (BitVec.ofNat 32 (f i).val) 0#32 = 0#1 := by
    show BitVec.ofBool (decide ((BitVec.ofNat 32 (f i).val).toInt < (0#32).toInt)) = _
    rw [place_toInt, BitVec.toInt_zero, decide_eq_false (by omega)]
    rfl
  rw [e, ha, hs]
  rfl

theorem inside_at (y : S8192x1.Idx) : insideOf (placeOf a) y = 1#1 := by
  refine Host.reduce_andi_one _ _ _ _ _ rfl fun z => ?_
  obtain ⟨i, rfl⟩ : ∃ i : Fin 8192, z = ix3 i 0 0 := ⟨z 0, funext fun
    | ⟨0, _⟩ => rfl
    | ⟨1, _⟩ => Subsingleton.elim (α := Fin 1) _ _
    | ⟨2, _⟩ => Subsingleton.elim (α := Fin 1) _ _⟩
  show IntOp.andi (IntOp.cmpi .sge (placeOf a (ix3 i 0 0)) 0#32) (IntOp.cmpi .sle (placeOf a (ix3 i 0 0)) 2047#32) = 1#1
  rw [place_at a f ha]
  have h1 : IntOp.cmpi .sge (BitVec.ofNat 32 (f i).val) 0#32 = 1#1 := by
    show BitVec.ofBool (decide ((0#32).toInt ≤ (BitVec.ofNat 32 (f i).val).toInt)) = _
    rw [place_toInt, BitVec.toInt_zero, decide_eq_true (by omega)]
    rfl
  have h2 : IntOp.cmpi .sle (BitVec.ofNat 32 (f i).val) 2047#32 = 1#1 := by
    show BitVec.ofBool (decide ((BitVec.ofNat 32 (f i).val).toInt ≤ (2047#32).toInt)) = _
    rw [place_toInt, show (2047#32 : BitVec 32).toInt = 2047 by decide]
    have := (f i).isLt
    simp only [decide_eq_true (show ((f i).val : ℤ) ≤ 2047 by omega)]
    rfl
  rw [h1, h2]
  rfl

/-- The word of a row at its place. -/
theorem gather_at (t : BigW) (i : Fin 8192) :
    Host.gather gather_S8192x2048_S8192x1x1_S8192x1_n_1_0_0_1_2_11 t (placeOf a) (ix2 i 0) = row t i (f i) := by
  let d := gather_S8192x2048_S8192x1x1_S8192x1_n_1_0_0_1_2_11
  unfold Host.gather row
  refine congrArg t (funext fun b => Fin.ext ?_)
  show d.start (ix2 i 0) (placeOf a) b + d.batchCoord (ix2 i 0) b + d.offCoord (ix2 i 0) b = _
  have off : d.offCoord (ix2 i 0) b = 0 := GatherDims.offCoord_eq_zero _ _ _ fun h => by
    have := (GatherDims.mem_sKept _ _).mp h
    revert this
    revert b
    decide
  rw [off]
  match b with
  | ⟨0, _⟩ =>
    have s0 : d.start (ix2 i 0) (placeOf a) 0 = 0 := GatherDims.start_batching _ _ _ _ (List.mem_singleton.mpr rfl)
    show d.start (ix2 i 0) (placeOf a) 0 + d.batchCoord (ix2 i 0) 0 + 0 = i.val
    rw [s0]
    unfold GatherDims.batchCoord
    rw [dif_pos (show (0 : Fin 2) ∈ d.operandBatchingDims from List.mem_singleton.mpr rfl)]
    show 0 + i.val + 0 = i.val
    omega
  | ⟨1, _⟩ =>
    have b1 : d.batchCoord (ix2 i 0) 1 = 0 := GatherDims.batchCoord_eq_zero _ _ _ fun h => by
      revert h
      decide
    show d.start (ix2 i 0) (placeOf a) 1 + d.batchCoord (ix2 i 0) 1 + 0 = (f i).val
    rw [b1]
    unfold GatherDims.start
    rw [dif_pos (show (1 : Fin 2) ∈ d.startIndexMap from List.mem_singleton.mpr rfl)]
    have hs : d.siIdx (ix2 i 0) ⟨List.idxOf (1 : Fin 2) d.startIndexMap,
        List.idxOf_lt_length_iff.2 (List.mem_singleton.mpr rfl)⟩ = (ix3 i 0 0 : S8192x1x1.Idx) := by
      funext c
      match c with
      | ⟨0, _⟩ => rfl
      | ⟨1, _⟩ => rfl
      | ⟨2, _⟩ => rfl
    rw [hs, place_at a f ha, place_toInt]
    show min ((f i).val : ℤ).toNat (2048 - 1) + 0 + 0 = (f i).val
    have := (f i).isLt
    omega

theorem take_at (t : BigW) (i : Fin 8192) : takeOf t a (ix1 i) = row t i (f i) := by
  have e : takeOf t a (ix1 i) = Scalar.select (insideOf (placeOf a) (ix2 i 0))
      (Host.gather gather_S8192x2048_S8192x1x1_S8192x1_n_1_0_0_1_2_11 t (placeOf a) (ix2 i 0)) 2147483648#32 := by
    unfold takeOf
    generalize insideOf (placeOf a) = u
    generalize Host.gather gather_S8192x2048_S8192x1x1_S8192x1_n_1_0_0_1_2_11 t (placeOf a) = v
    pointwise
  rw [e, inside_at a f ha, gather_at a f ha]
  rfl

end Cert.Ref

end
-- ==== Proof.KerHost.lean ====
/- What the kernel's host operations hand to the launch: the thirteen rows, the points' squared
   lengths and the five groups of columns, from the coordinates. -/
module

public import proofs.«01_k».proof.Proof.Gen.KernelIdeal.Frame
public import proofs.«01_k».proof.Proof.Fix
public import proofs.«01_k».proof.Proof.Geo

@[expose] public section

noncomputable section

namespace Cert.Ker

open Cert.KernelIdeal Cert.KernelIdeal.Gen Idealize.ShloMosaic Idealize.ShloMosaic.TcCoe Idealize.SL.Sem
open Idealize.ShloMosaic.StableHlo Cert.Fix Cert.Cell

/-- Contents of all buffers. -/
abbrev Vals := Valuation τ sig (Elt Ideal)
abbrev Row := FVec Ideal S2048 .f32
abbrev Rows := FVec Ideal S13x2048 .f32
abbrev Cols := FVec Ideal S3x10240 .bf16

/-- The points and the corners of the triangles. -/
def pP (W : Vals) (i : Fin 8192) : V3 := fun k => (W (Proc.devRef .tc main_arg0) : FVec Ideal S8192x3 .f32) (ix2 i k)
def pA (W : Vals) (l : Fin 2048) : V3 := fun k => (W (Proc.devRef .tc main_arg1) : FVec Ideal S2048x3 .f32) (ix2 l k)
def pB (W : Vals) (l : Fin 2048) : V3 := fun k => (W (Proc.devRef .tc main_arg2) : FVec Ideal S2048x3 .f32) (ix2 l k)
def pC (W : Vals) (l : Fin 2048) : V3 := fun k => (W (Proc.devRef .tc main_arg3) : FVec Ideal S2048x3 .f32) (ix2 l k)

/-- The edges as the host leaves them. -/
abbrev eB (W : Vals) (l : Fin 2048) : V3 := dif (pB W l) (pA W l)
abbrev eC (W : Vals) (l : Fin 2048) : V3 := dif (pC W l) (pA W l)
abbrev eE (W : Vals) (l : Fin 2048) : V3 := dif (pC W l) (pB W l)

/-- The factor by which the corners are multiplied before the kernel. -/
def mtwo : E := FloatOps.ofBits .f32 0xC0000000#32

/-- The column of group `s` that belongs to triangle `l`. -/
def col (s : Fin 5) (l : Fin 2048) : Fin 10240 := ⟨2048 * s.val + l.val, by omega⟩

/-- The thirteen inner products, a row each. -/
def rows (W : Vals) (l : Fin 2048) : Fin 13 → E := ![
  dot (pA W l) (eB W l), dot (pA W l) (eC W l), dot (pB W l) (eB W l), dot (pB W l) (eC W l),
  dot (pC W l) (eB W l), dot (pC W l) (eC W l), dot (eB W l) (eB W l), dot (eC W l) (eC W l),
  dot (eB W l) (eC W l), dot (eE W l) (eE W l), dot (pA W l) (pA W l), dot (pB W l) (pB W l), dot (pC W l) (pC W l)]

/-- What the launch reads. -/
structure Host (W : Vals) : Prop where
  scal : ∀ (r : Fin 13) l, (W (Proc.devRef .tc main_v42) : Rows) (ix2 r l) = rows W l r
  pp : ∀ i, (W (Proc.devRef .tc main_v45) : FVec Ideal S8192x1 .f32) (ix2 i 0) = dot (pP W i) (pP W i)
  pts : ∀ i k, (W (Proc.devRef .tc main_v58) : FVec Ideal S8192x3 .bf16) (ix2 i k) = pP W i k
  ab : ∀ k l, (W (Proc.devRef .tc main_v59) : Cols) (ix2 k (col 0 l)) = eB W l k
  ac : ∀ k l, (W (Proc.devRef .tc main_v59) : Cols) (ix2 k (col 1 l)) = eC W l k
  ma : ∀ k l, (W (Proc.devRef .tc main_v59) : Cols) (ix2 k (col 2 l)) = mtwo * pA W l k
  mb : ∀ k l, (W (Proc.devRef .tc main_v59) : Cols) (ix2 k (col 3 l)) = mtwo * pB W l k
  mc : ∀ k l, (W (Proc.devRef .tc main_v59) : Cols) (ix2 k (col 4 l)) = mtwo * pC W l k

set_option maxRecDepth 4000 in
theorem host_line : Line 4 (hostOps0 : List (HloOp τ sig (Elt Ideal))) 200 := by
  unfold hostOps0
  repeat (first | refine Line.cons (Step.binary _ _ _ _ (by decide) (by decide)) (by decide) ?_
                | refine Line.cons (Step.unary _ _ _ (by decide)) (by decide) ?_
                | refine Line.cons (Step.nullary _ _ _) (by decide) ?_
                | refine Line.cons (Step.nary _ _ _ (by decide)) (by decide) ?_)
  show _ ≤ _
  decide

/-- Five groups of columns side by side, read at a column. -/
theorem cat_col (x : Fin 5 → FVec Ideal S3x2048 .f32) (s : Fin 5) (k : Fin 3) (l : Fin 2048) :
    concatenate S3x10240 1 [⟨S3x2048, x 0⟩, ⟨S3x2048, x 1⟩, ⟨S3x2048, x 2⟩, ⟨S3x2048, x 3⟩, ⟨S3x2048, x 4⟩]
      concatenates_S3x2048_S3x2048_S3x2048_S3x2048_S3x2048_S3x10240_d1 (ix2 k (col s l)) = x s (ix2 k l) := by
  fin_cases s <;> pointwise [col] <;> split_ifs <;>
    first | omega | exact congrArg (fun a => x _ (ix2 k a)) (Fin.ext (by simp only []; omega))

set_option maxRecDepth 4000 in
set_option maxHeartbeats 1000000 in
theorem host_of (W : Vals) (h : ∀ op ∈ (hostOps0 : List (HloOp τ sig (Elt Ideal))), op.result W = W) : Host W := by
  unfold hostOps0 at h
  simp only [List.forall_mem_cons, nullary_fix, unary_fix, binary_fix, nary_fix] at h
  obtain ⟨e0, e1, e2, e3, c, e4, e5, c0, e6, e7, c1, e8, e9, c2, e10, e11, c3, e12, e13, c4, e14, e15, c5, e16,
    e17, c6, e18, e19, c7, e20, e21, c8, e22, e23, c9, e24, e25, c10, e26, e27, c11, e28,
    e29, e30, e31, e32, e33, e34, e35, e36, e37, e38, e39, e40, e41, e42, e43, c12, e44, e45, e46, e47, e48, c13, e49, e50,
    e51, c14, e52, e53, e54, c15, e55, e56, e57, e58, e59, -⟩ := h
  have h59 : ∀ s k l, (W (Proc.devRef .tc main_v59) : Cols) (ix2 k (col s l)) =
      (![W (Proc.devRef .tc main_v46), W (Proc.devRef .tc main_v47), W (Proc.devRef .tc main_v50),
        W (Proc.devRef .tc main_v53), W (Proc.devRef .tc main_v56)] : Fin 5 → FVec Ideal S3x2048 .f32) s (ix2 k l) := by
    intro s k l
    rw [e59, e57]
    exact cat_col ![W (Proc.devRef .tc main_v46), W (Proc.devRef .tc main_v47), W (Proc.devRef .tc main_v50),
        W (Proc.devRef .tc main_v53), W (Proc.devRef .tc main_v56)] s k l
  constructor
  · intro r l
    rw [e42]
    fin_cases r <;> pointwise [rows]
    · rw [e29, e4, c, e3, e0]; pointwise [dot, dif, pA, pB, pC]
    · rw [e30, e6, c0, e5, e1]; pointwise [dot, dif, pA, pB, pC]
    · rw [e31, e8, c1, e7, e0]; pointwise [dot, dif, pA, pB, pC]
    · rw [e32, e10, c2, e9, e1]; pointwise [dot, dif, pA, pB, pC]
    · rw [e33, e12, c3, e11, e0]; pointwise [dot, dif, pA, pB, pC]
    · rw [e34, e14, c4, e13, e1]; pointwise [dot, dif, pA, pB, pC]
    · rw [e35, e16, c5, e15, e0]; pointwise [dot, dif, pA, pB, pC]
    · rw [e36, e18, c6, e17, e1]; pointwise [dot, dif, pA, pB, pC]
    · rw [e37, e20, c7, e19, e0, e1]; pointwise [dot, dif, pA, pB, pC]
    · rw [e38, e22, c8, e21, e2]; pointwise [dot, dif, pA, pB, pC]
    · rw [e39, e24, c9, e23]; pointwise [dot, dif, pA, pB, pC]
    · rw [e40, e26, c10, e25]; pointwise [dot, dif, pA, pB, pC]
    · rw [e41, e28, c11, e27]; pointwise [dot, dif, pA, pB, pC]
  · intro i
    rw [e45, e44, c12, e43]
    pointwise [dot, pP]
  · intro i k
    rw [e58]
    pointwise [pP]
  · intro k l
    refine (h59 0 k l).trans ?_
    show (W (Proc.devRef .tc main_v46) : FVec Ideal S3x2048 .f32) (ix2 k l) = _
    rw [e46, e0]
    pointwise [dif, pA, pB]
  · intro k l
    refine (h59 1 k l).trans ?_
    show (W (Proc.devRef .tc main_v47) : FVec Ideal S3x2048 .f32) (ix2 k l) = _
    rw [e47, e1]
    pointwise [dif, pA, pC]
  · intro k l
    refine (h59 2 k l).trans ?_
    show (W (Proc.devRef .tc main_v50) : FVec Ideal S3x2048 .f32) (ix2 k l) = _
    rw [e50, e49, c13, e48]
    pointwise [mtwo, pA]
  · intro k l
    refine (h59 3 k l).trans ?_
    show (W (Proc.devRef .tc main_v53) : FVec Ideal S3x2048 .f32) (ix2 k l) = _
    rw [e53, e52, c14, e51]
    pointwise [mtwo, pB]
  · intro k l
    refine (h59 4 k l).trans ?_
    show (W (Proc.devRef .tc main_v56) : FVec Ideal S3x2048 .f32) (ix2 k l) = _
    rw [e56, e55, c15, e54]
    pointwise [mtwo, pC]

end Cert.Ker

end
-- ==== Proof.KerCell.lean ====
/- One block of the kernel at a point and a triangle: the thirteen numbers from the four input blocks,
   and the distance and the feature from the thirteen numbers. -/
module

public import proofs.«01_k».proof.Proof.KerHost
public import Idealize.ShloMosaic.Lib.Pipeline.Value

@[expose] public section

noncomputable section

namespace Cert.Ker

open Cert.KernelIdeal Cert.KernelIdeal.Gen Idealize.ShloMosaic Idealize.ShloMosaic.TcCoe Idealize.SL.Sem
open Idealize.ShloMosaic.StableHlo Cert.Fix Cert.Cell

variable (x0 : Vec Ideal S256x3 .bf16) (x1 : Vec Ideal S3x10240 .bf16) (x2 : Vec Ideal S13x2048 .f32) (x3 : Vec Ideal S256x1 .f32)

abbrev Blk := FVec Ideal S256x2048 .f32

/-- The distances and the features of one block, before the minimum over the triangles. -/
def bDist : Blk :=
  k0_pay42 (k0_pay47 x0 x1 x2 x3) (k0_pay48 x0 x1 x2 x3) (k0_pay55 x0 x1 x2 x3) (k0_pay56 x0 x1 x2 x3) (k0_pay57 x0 x1 x2 x3)
    (k0_pay61 x0 x1 x2 x3) (k0_pay62 x0 x1 x2 x3) (k0_pay63 x0 x1 x2 x3) (k0_pay65 x0 x1 x2 x3) (k0_pay66 x0 x1 x2 x3)
    (k0_pay67 x0 x1 x2 x3) (k0_pay68 x0 x1 x2 x3) (k0_pay69 x0 x1 x2 x3) (k0_pay70 x0 x1 x2 x3) (k0_pay71 x0 x1 x2 x3)
    (k0_pay72 x0 x1 x2 x3)

def bType : IVec S256x2048 32 :=
  select (k0_pay61 x0 x1 x2 x3) (broadcast S256x2048 0#32) (select (k0_pay62 x0 x1 x2 x3) (broadcast S256x2048 1#32)
    (select (k0_pay63 x0 x1 x2 x3) (broadcast S256x2048 2#32) (select (k0_pay65 x0 x1 x2 x3) (broadcast S256x2048 3#32)
    (select (k0_pay66 x0 x1 x2 x3) (broadcast S256x2048 4#32) (select (k0_pay67 x0 x1 x2 x3) (broadcast S256x2048 5#32)
    (broadcast S256x2048 6#32))))))

/-- A row of the block, copied to every point. -/
def bRow (v : FVec Ideal S1x2048 .f32) : Blk := broadcastTo S256x2048 v broadcasts_S1x2048_S256x2048

/-- The thirteen numbers as the block holds them. -/
def bq (ij : S256x2048.Idx) : Q where
  d1 := k0_pay49 x0 x1 x2 x3 ij
  d2 := k0_pay50 x0 x1 x2 x3 ij
  d3 := k0_pay51 x0 x1 x2 x3 ij
  d4 := k0_pay52 x0 x1 x2 x3 ij
  d5 := k0_pay53 x0 x1 x2 x3 ij
  d6 := k0_pay54 x0 x1 x2 x3 ij
  a2 := k0_pay55 x0 x1 x2 x3 ij
  b2 := k0_pay56 x0 x1 x2 x3 ij
  c2 := k0_pay57 x0 x1 x2 x3 ij
  aa := bRow (k0_pay46 x0 x1 x2 x3) ij
  cc := bRow (k0_pay47 x0 x1 x2 x3) ij
  bb := bRow (k0_pay48 x0 x1 x2 x3) ij
  ee := bRow (k0_pay8 (View.ld x2 r0_2)) ij

theorem type_at (ij) : bType x0 x1 x2 x3 ij = ty (bq x0 x1 x2 x3 ij) := rfl

theorem row_cast (v : FVec Ideal S1x2048 .f32) : broadcastTo S256x2048 (shapeCast S1x2048 v shapeCasts_S1x2048_S1x2048)
    broadcasts_S1x2048_S256x2048 = bRow v := by
  funext j
  idx_vars j
  unfold bRow
  pointwise

theorem dist_at (ij) : bDist x0 x1 x2 x3 ij = kdist (bq x0 x1 x2 x3 ij) := by
  unfold bDist k0_pay68 k0_pay36
  simp only [row_cast]
  rfl

/-- The thirteen numbers from the four input blocks. -/
def inq (i : Fin 256) (l : Fin 2048) : Q where
  d1 := (∑ k : Fin 3, (x0 (ix2 i k) : E) * x1 (ix2 k (col 0 l))) - x2 (ix2 0 l)
  d2 := (∑ k : Fin 3, (x0 (ix2 i k) : E) * x1 (ix2 k (col 1 l))) - x2 (ix2 1 l)
  d3 := (∑ k : Fin 3, (x0 (ix2 i k) : E) * x1 (ix2 k (col 0 l))) - x2 (ix2 2 l)
  d4 := (∑ k : Fin 3, (x0 (ix2 i k) : E) * x1 (ix2 k (col 1 l))) - x2 (ix2 3 l)
  d5 := (∑ k : Fin 3, (x0 (ix2 i k) : E) * x1 (ix2 k (col 0 l))) - x2 (ix2 4 l)
  d6 := (∑ k : Fin 3, (x0 (ix2 i k) : E) * x1 (ix2 k (col 1 l))) - x2 (ix2 5 l)
  a2 := (x3 (ix2 i 0) + ∑ k : Fin 3, (x0 (ix2 i k) : E) * x1 (ix2 k (col 2 l))) + x2 (ix2 10 l)
  b2 := (x3 (ix2 i 0) + ∑ k : Fin 3, (x0 (ix2 i k) : E) * x1 (ix2 k (col 3 l))) + x2 (ix2 11 l)
  c2 := (x3 (ix2 i 0) + ∑ k : Fin 3, (x0 (ix2 i k) : E) * x1 (ix2 k (col 4 l))) + x2 (ix2 12 l)
  aa := x2 (ix2 6 l)
  cc := x2 (ix2 7 l)
  bb := x2 (ix2 8 l)
  ee := x2 (ix2 9 l)

theorem hz : (![0, 0] : Fin 2 → Nat) = fun _ => 0 := funext fun a => by fin_cases a <;> rfl

/-- The product of the points with all five groups of columns, at an entry. -/
theorem prod_at (i : Fin 256) (c : Fin 10240) :
    k0_pay9 x0 x1 (ix2 i c) = ∑ k : Fin 3, (x0 (ix2 i k) : E) * x1 (ix2 k c) := by
  unfold k0_pay9
  pointwise

theorem inq_at (i : Fin 256) (l : Fin 2048) : bq x0 x1 x2 x3 (ix2 i l) = inq x0 x1 x2 x3 i l := by
  unfold bq inq
  simp only [k0_pay46, k0_pay47, k0_pay48, k0_pay49, k0_pay50, k0_pay51, k0_pay52, k0_pay53, k0_pay54, k0_pay55,
    k0_pay56, k0_pay57, View.ld_unit_zero (S := S256x3) hz, View.ld_unit_zero (S := S3x10240) hz,
    View.ld_unit_zero (S := S13x2048) hz, View.ld_unit_zero (S := S256x1) hz]
  congr 1
  all_goals pointwise [k0_pay3, k0_pay4, k0_pay5, k0_pay6, k0_pay7, k0_pay8, k0_pay10, k0_pay11, k0_pay12, k0_pay13,
    k0_pay14, k0_pay15, k0_pay16, k0_pay17, k0_pay18, k0_pay19, k0_pay20, k0_pay21, k0_pay22, prod_at, bRow, col]

end Cert.Ker

end
-- ==== Proof.KerBlock.lean ====
/- The three results of one block, at a point. -/
module

public import proofs.«01_k».proof.Proof.KerCell
public import proofs.«01_k».proof.Proof.Choice
public import Idealize.ShloMosaic.Lib.Routing.Words

@[expose] public section

noncomputable section

namespace Cert.Ker

open Cert.KernelIdeal Cert.KernelIdeal.Gen Idealize.ShloMosaic Idealize.ShloMosaic.TcCoe Idealize.SL.Sem
open Idealize.ShloMosaic.StableHlo Cert.Fix Cert.Cell Cert.Choice

variable (x0 : Vec Ideal S256x3 .bf16) (x1 : Vec Ideal S3x10240 .bf16) (x2 : Vec Ideal S13x2048 .f32) (x3 : Vec Ideal S256x1 .f32)

/-- The least distance of each point of a block, at least zero. -/
def bMin (D : Blk) : FVec Ideal S256 .f32 :=
  maximumf (multiReduction .minimumf [1] S256 D 0x7F800000#32 reduces_S256x2048_S256 (.inl rfl) rfl)
    (broadcast S256 zero)

/-- The least code of each point of a block among the triangles at the least distance. -/
def bCode (D : Blk) (T : IVec S256x2048 32) : IVec S256 32 :=
  multiReductionI .minsi [1] S256
    (select (cmpf .ole D (broadcastTo S256x2048 (shapeCast S256x1 (bMin D) shapeCasts_S256_S256x1) broadcasts_S256x1_S256x2048))
      (addi (muli (iota .tc S256x2048 32 [1] iota_S256x2048_d1_w32) (broadcast S256x2048 8#32)) T)
      (broadcast S256x2048 1073741824#32)) 2147483647#32 reduces_S256x2048_S256 rfl

theorem hz1 : (![0] : Fin 1 → Nat) = fun _ => 0 := funext fun a => by fin_cases a; rfl

theorem out4_eq : out0_4 x0 x1 x2 x3 = bMin (bDist x0 x1 x2 x3) := by
  unfold out0_4
  rw [View.canon_unit_zero hz1]
  rfl

theorem code_eq : k0_pay73 x0 x1 x2 x3 = bCode (bDist x0 x1 x2 x3) (bType x0 x1 x2 x3) := rfl

theorem out6_eq : out0_6 x0 x1 x2 x3 = k0_pay2 (bCode (bDist x0 x1 x2 x3) (bType x0 x1 x2 x3)) := by
  unfold out0_6
  rw [View.canon_unit_zero hz1, code_eq]

theorem out5_eq : out0_5 x0 x1 x2 x3 = k0_pay1 (bCode (bDist x0 x1 x2 x3) (bType x0 x1 x2 x3)) 8#32
    (divsi (bCode (bDist x0 x1 x2 x3) (bType x0 x1 x2 x3)) (broadcast S256 8#32)) 0#32 := by
  unfold out0_5
  rw [View.canon_unit_zero hz1, code_eq]
  rfl

theorem min_at (D : Blk) (i : Fin 256) : bMin D (ix1 i) = rowMin fun l => D (ix2 i l) := by
  unfold bMin rowMin least top
  pointwise

theorem code_at (D : Blk) (T) (i : Fin 256) :
    bCode D T (ix1 i) = rowCode (fun l => D (ix2 i l)) fun l => T (ix2 i l) := by
  unfold bCode rowCode code
  simp only [← min_at]
  pointwise

/-- The quotient by eight, which the program rounds down. -/
theorem div_at (v : IVec S256 32) (i : Fin 256) (n : Nat) (hn : n < 2 ^ 31) (h : v (ix1 i) = BitVec.ofNat 32 n) :
    k0_pay1 v 8#32 (divsi v (broadcast S256 8#32)) 0#32 (ix1 i) = BitVec.ofNat 32 (n / 8) := by
  show Scalar.select (IntOp.andi
      (IntOp.cmpi .ne (IntOp.subi ((IntOp.cmpi .sgt (v (ix1 i)) 0#32).setWidth 32) ((IntOp.cmpi .slt (v (ix1 i)) 0#32).setWidth 32)) 1#32)
      (IntOp.cmpi .ne (IntOp.remsi .vector (v (ix1 i)) (BitVec.ofNat 32 8)) 0#32))
    (IntOp.subi (IntOp.divsi .vector (v (ix1 i)) (BitVec.ofNat 32 8)) 1#32)
    (IntOp.divsi .vector (v (ix1 i)) (BitVec.ofNat 32 8)) = _
  rw [h, Routing.divsi_word _ hn (by decide) (by decide), Routing.remsi_word _ hn (by decide) (by decide)]
  exact floor_nonneg n hn _ _ fun e => by rw [e]

/-- The last three bits. -/
theorem low_at (v : IVec S256 32) (i : Fin 256) (j : Nat) (t : BitVec 32) (hj : j < 2048) (ht : t.toNat ≤ 6)
    (h : v (ix1 i) = BitVec.ofNat 32 (8 * j + t.toNat)) : k0_pay2 v (ix1 i) = t := by
  show v (ix1 i) &&& 7#32 = t
  rw [h]
  apply BitVec.eq_of_toNat_eq
  rw [BitVec.toNat_and, BitVec.toNat_ofNat, show (7#32).toNat = 2 ^ 3 - 1 by decide, Nat.and_two_pow_sub_one_eq_mod]
  omega

end Cert.Ker

end
-- ==== Proof.KerRun.lean ====
/- The kernel's run: its 32 blocks put together, the three results at every point. -/
module

public import proofs.«01_k».proof.Proof.KerBlock

@[expose] public section

noncomputable section

namespace Cert.Ker

open Cert.KernelIdeal Cert.KernelIdeal.Gen Idealize.ShloMosaic Idealize.ShloMosaic.TcCoe Idealize.SL.Sem
open Idealize.ShloMosaic.StableHlo Cert.Fix Cert.Cell Cert.Choice
open Idealize.ShloMosaic.Pipeline (Dat)

/-- The squared distance to a corner as the kernel adds it up. -/
def ksq (p x : V3) : E := (dot p p + dot p fun k => mtwo * x k) + dot x x

/-- The thirteen numbers of a point and a triangle as the kernel has them. -/
def kq (W : Vals) (i : Fin 8192) (l : Fin 2048) : Q :=
  { geo (pP W i) (pA W l) (pB W l) (pC W l) with
    a2 := ksq (pP W i) (pA W l), b2 := ksq (pP W i) (pB W l), c2 := ksq (pP W i) (pC W l) }

/-- The distances of a point, and the first triangle at the least of them. -/
def kd (W : Vals) (i : Fin 8192) (l : Fin 2048) : E := kdist (kq W i l)
def kj (W : Vals) (i : Fin 8192) : Fin 2048 := first (clamp (kd W i))

/-- The three results. -/
def res4 (W : Vals) : FVec Ideal S8192 .f32 := fun y => rowMin (kd W (y 0))
def res5 (W : Vals) : IVec S8192 32 := fun y => BitVec.ofNat 32 (kj W (y 0)).val
def res6 (W : Vals) : IVec S8192 32 := fun y => ty (kq W (y 0) (kj W (y 0)))

variable (m : (ℓ : Loc nD τ sig) → Buf (Elt Ideal) ℓ)

/-- The buffers as the host's operations leave them. -/
def hv (c : Dev nD) : Vals := after hostOps0 fun b => m (c, b)

theorem hv_host (c : Dev nD) : Host (hv m c) := host_of _ (host_line.fixed _)

/-- The point at a place of a block. -/
def pt (t : Fin cfg0.N) (r : Fin 256) : Fin 8192 := ⟨256 * t.val + r.val, by
  have h : cfg0.N = 32 := N_0
  have := t.isLt
  omega⟩

theorem ix_pts : ∀ t : Fin cfg0.N, win0_0.index t 0 = t.val ∧ win0_0.index t 1 = 0 ∧ win0_3.index t 0 = t.val ∧
    win0_3.index t 1 = 0 := by decide +kernel
theorem ix_rows : ∀ t : Fin cfg0.N, win0_1.index t 0 = 0 ∧ win0_1.index t 1 = 0 ∧ win0_2.index t 0 = 0 ∧
    win0_2.index t 1 = 0 := by decide +kernel
theorem ix_out : ∀ t : Fin cfg0.N, win0_4.index t 0 = t.val ∧ win0_5.index t 0 = t.val ∧ win0_6.index t 0 = t.val := by
  decide +kernel

theorem blk0_at (c : Dev nD) (t : Fin cfg0.N) (r : Fin 256) (k : Fin 3) :
    (iblk m c 0 t : FVec Ideal S256x3 .bf16) (ix2 r k) = (hv m c (Proc.devRef .tc main_v58) : FVec Ideal S8192x3 .bf16) (ix2 (pt t r) k) := by
  show hv m c (Proc.devRef .tc main_v58) (((cfg0.win 0).blk t).view.emb (ix2 r k)) = _
  obtain ⟨h0, h1, -⟩ := ix_pts t
  congr 1
  funext a
  apply Fin.ext
  match a with
  | ⟨0, _⟩ => show win0_0.index t 0 * 256 + 1 * r.val = 256 * t.val + r.val; rw [h0]; omega
  | ⟨1, _⟩ => show win0_0.index t 1 * 3 + 1 * k.val = k.val; rw [h1]; omega

theorem blk1_at (c : Dev nD) (t : Fin cfg0.N) (k : Fin 3) (l : Fin 10240) :
    (iblk m c 1 t : FVec Ideal S3x10240 .bf16) (ix2 k l) = (hv m c (Proc.devRef .tc main_v59) : Cols) (ix2 k l) := by
  show hv m c (Proc.devRef .tc main_v59) (((cfg0.win 1).blk t).view.emb (ix2 k l)) = _
  obtain ⟨h0, h1, -⟩ := ix_rows t
  congr 1
  funext a
  apply Fin.ext
  match a with
  | ⟨0, _⟩ => show win0_1.index t 0 * 3 + 1 * k.val = k.val; rw [h0]; omega
  | ⟨1, _⟩ => show win0_1.index t 1 * 10240 + 1 * l.val = l.val; rw [h1]; omega

theorem blk2_at (c : Dev nD) (t : Fin cfg0.N) (k : Fin 13) (l : Fin 2048) :
    (iblk m c 2 t : FVec Ideal S13x2048 .f32) (ix2 k l) = (hv m c (Proc.devRef .tc main_v42) : Rows) (ix2 k l) := by
  show hv m c (Proc.devRef .tc main_v42) (((cfg0.win 2).blk t).view.emb (ix2 k l)) = _
  obtain ⟨-, -, h0, h1⟩ := ix_rows t
  congr 1
  funext a
  apply Fin.ext
  match a with
  | ⟨0, _⟩ => show win0_2.index t 0 * 13 + 1 * k.val = k.val; rw [h0]; omega
  | ⟨1, _⟩ => show win0_2.index t 1 * 2048 + 1 * l.val = l.val; rw [h1]; omega

theorem blk3_at (c : Dev nD) (t : Fin cfg0.N) (r : Fin 256) :
    (iblk m c 3 t : FVec Ideal S256x1 .f32) (ix2 r 0) = (hv m c (Proc.devRef .tc main_v45) : FVec Ideal S8192x1 .f32) (ix2 (pt t r) 0) := by
  show hv m c (Proc.devRef .tc main_v45) (((cfg0.win 3).blk t).view.emb (ix2 r 0)) = _
  obtain ⟨-, -, h0, h1⟩ := ix_pts t
  congr 1
  funext a
  apply Fin.ext
  match a with
  | ⟨0, _⟩ => show win0_3.index t 0 * 256 + 1 * r.val = 256 * t.val + r.val; rw [h0]; omega
  | ⟨1, _⟩ => show win0_3.index t 1 * 1 + 1 * 0 = 0; rw [h1]

/-- The thirteen numbers of a block are those of its points. -/
theorem inq_eq (c : Dev nD) (t : Fin cfg0.N) (r : Fin 256) (l : Fin 2048) :
    inq (iblk m c 0 t) (iblk m c 1 t) (iblk m c 2 t) (iblk m c 3 t) r l = kq (hv m c) (pt t r) l := by
  have h := hv_host m c
  unfold inq kq geo
  simp only [blk0_at, blk1_at, blk2_at, blk3_at, h.scal, h.pp, h.pts, h.ab, h.ac, h.ma, h.mb, h.mc]
  rfl

/-- The distances, the features and the codes of a block. -/
theorem dist_blk (c : Dev nD) (t : Fin cfg0.N) (r : Fin 256) (l : Fin 2048) :
    bDist (iblk m c 0 t) (iblk m c 1 t) (iblk m c 2 t) (iblk m c 3 t) (ix2 r l) = kd (hv m c) (pt t r) l := by
  rw [dist_at, inq_at, inq_eq]
  rfl

theorem type_blk (c : Dev nD) (t : Fin cfg0.N) (r : Fin 256) (l : Fin 2048) :
    bType (iblk m c 0 t) (iblk m c 1 t) (iblk m c 2 t) (iblk m c 3 t) (ix2 r l) = ty (kq (hv m c) (pt t r) l) := by
  rw [type_at, inq_at, inq_eq]

theorem code_blk (c : Dev nD) (t : Fin cfg0.N) (r : Fin 256) :
    bCode (bDist (iblk m c 0 t) (iblk m c 1 t) (iblk m c 2 t) (iblk m c 3 t))
      (bType (iblk m c 0 t) (iblk m c 1 t) (iblk m c 2 t) (iblk m c 3 t)) (ix1 r) =
      BitVec.ofNat 32 (8 * (kj (hv m c) (pt t r)).val + (ty (kq (hv m c) (pt t r) (kj (hv m c) (pt t r)))).toNat) := by
  rw [code_at]
  simp only [dist_blk, type_blk]
  exact rowCode_eq (fun l => ty_le _) (first_spec _)

/-! ## What each block leaves -/

theorem emb4 (t : Fin cfg0.N) (r : Fin 256) : (((cfg0.win 4).blk t).view.emb (ix1 r) : S8192.Idx) = ix1 (pt t r) := by
  funext a
  apply Fin.ext
  match a with
  | ⟨0, _⟩ => show win0_4.index t 0 * 256 + 1 * r.val = 256 * t.val + r.val; rw [(ix_out t).1]; omega

theorem emb5 (t : Fin cfg0.N) (r : Fin 256) : (((cfg0.win 5).blk t).view.emb (ix1 r) : S8192.Idx) = ix1 (pt t r) := by
  funext a
  apply Fin.ext
  match a with
  | ⟨0, _⟩ => show win0_5.index t 0 * 256 + 1 * r.val = 256 * t.val + r.val; rw [(ix_out t).2.1]; omega

theorem emb6 (t : Fin cfg0.N) (r : Fin 256) : (((cfg0.win 6).blk t).view.emb (ix1 r) : S8192.Idx) = ix1 (pt t r) := by
  funext a
  apply Fin.ext
  match a with
  | ⟨0, _⟩ => show win0_6.index t 0 * 256 + 1 * r.val = 256 * t.val + r.val; rw [(ix_out t).2.2]; omega

theorem flushed4 (c : Dev nD) (t : Fin cfg0.N) :
    (dats m 0 c).flushed 4 t = ((cfg0.win 4).blk t).view.read (Elt Ideal) (res4 (hv m c)) := by
  show (cfg0.win 4).cut (grid0.coords t) ((dats m 0 c).after 4 t) = _
  rw [after0_4, out4_eq]
  funext j
  show bMin _ (j : S256.Idx) = res4 (hv m c) (((cfg0.win 4).blk t).view.emb (j : S256.Idx))
  obtain ⟨r, rfl⟩ : ∃ r : Fin 256, (j : S256.Idx) = ix1 r := ⟨(j : S256.Idx) 0, by funext a; match a with | ⟨0, _⟩ => rfl⟩
  rw [emb4, min_at]
  simp only [dist_blk]
  rfl

theorem flushed5 (c : Dev nD) (t : Fin cfg0.N) :
    (dats m 0 c).flushed 5 t = ((cfg0.win 5).blk t).view.read (Elt Ideal) (res5 (hv m c)) := by
  show (cfg0.win 5).cut (grid0.coords t) ((dats m 0 c).after 5 t) = _
  rw [after0_5, out5_eq]
  funext j
  show k0_pay1 _ _ _ _ (j : S256.Idx) = res5 (hv m c) (((cfg0.win 5).blk t).view.emb (j : S256.Idx))
  obtain ⟨r, rfl⟩ : ∃ r : Fin 256, (j : S256.Idx) = ix1 r := ⟨(j : S256.Idx) 0, by funext a; match a with | ⟨0, _⟩ => rfl⟩
  have hj := (kj (hv m c) (pt t r)).isLt
  have ht := ty_le (kq (hv m c) (pt t r) (kj (hv m c) (pt t r)))
  rw [emb5, div_at _ _ _ (by omega) (code_blk m c t r)]
  show _ = BitVec.ofNat 32 (kj (hv m c) (pt t r)).val
  congr 1
  omega

theorem flushed6 (c : Dev nD) (t : Fin cfg0.N) :
    (dats m 0 c).flushed 6 t = ((cfg0.win 6).blk t).view.read (Elt Ideal) (res6 (hv m c)) := by
  show (cfg0.win 6).cut (grid0.coords t) ((dats m 0 c).after 6 t) = _
  rw [after0_6, out6_eq]
  funext j
  show k0_pay2 _ (j : S256.Idx) = res6 (hv m c) (((cfg0.win 6).blk t).view.emb (j : S256.Idx))
  obtain ⟨r, rfl⟩ : ∃ r : Fin 256, (j : S256.Idx) = ix1 r := ⟨(j : S256.Idx) 0, by funext a; match a with | ⟨0, _⟩ => rfl⟩
  rw [emb6, low_at _ _ _ _ (kj (hv m c) (pt t r)).isLt (ty_le _) (code_blk m c t r)]
  rfl

/-! ## The blocks cover the results -/

/-- The block of a point and the point's place in it. -/
theorem pt_of (i : Fin 8192) : ∃ (t : Fin cfg0.N) (r : Fin 256), pt t r = i :=
  ⟨⟨i.val / 256, by have := N_0; have := i.isLt; show _ < grid0.N; omega⟩, ⟨i.val % 256, by omega⟩, Fin.ext (by
    show 256 * (i.val / 256) + i.val % 256 = i.val; omega)⟩

theorem cover4 (i : S8192.Idx) : ∃ t : Fin cfg0.N, (cfg0.win 4).flush t = true ∧ i ∈ ((cfg0.win 4).blk t).view.set := by
  obtain ⟨t, r, e⟩ := pt_of (i 0)
  have h : ((cfg0.win 4).blk t).view.emb (ix1 r) = i := by
    rw [emb4, e]
    funext a
    match a with
    | ⟨0, _⟩ => rfl
  exact ⟨t, flush0_4 t, h ▸ View.emb_mem_set _ _⟩

theorem cover5 (i : S8192.Idx) : ∃ t : Fin cfg0.N, (cfg0.win 5).flush t = true ∧ i ∈ ((cfg0.win 5).blk t).view.set := by
  obtain ⟨t, r, e⟩ := pt_of (i 0)
  have h : ((cfg0.win 5).blk t).view.emb (ix1 r) = i := by
    rw [emb5, e]
    funext a
    match a with
    | ⟨0, _⟩ => rfl
  exact ⟨t, flush0_5 t, h ▸ View.emb_mem_set _ _⟩

theorem cover6 (i : S8192.Idx) : ∃ t : Fin cfg0.N, (cfg0.win 6).flush t = true ∧ i ∈ ((cfg0.win 6).blk t).view.set := by
  obtain ⟨t, r, e⟩ := pt_of (i 0)
  have h : ((cfg0.win 6).blk t).view.emb (ix1 r) = i := by
    rw [emb6, e]
    funext a
    match a with
    | ⟨0, _⟩ => rfl
  exact ⟨t, flush0_6 t, h ▸ View.emb_mem_set _ _⟩

/-- The run: the three results, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v60_0) = res4 (hv m c)
      ∧ r.2.mem ((c.tc : Thread nD τ).loc main_v60_1) = res5 (hv m c)
      ∧ r.2.mem ((c.tc : Thread nD τ).loc main_v60_2) = res6 (hv m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).1 4).trans ((dats m 0 c).arrAt_eq_of_cover 4 (res4 (hv m c)) (fun t _ => flushed4 m c t) cover4),
      ((h c).1 5).trans ((dats m 0 c).arrAt_eq_of_cover 5 (res5 (hv m c)) (fun t _ => flushed5 m c t) cover5),
      ((h c).1 6).trans ((dats m 0 c).arrAt_eq_of_cover 6 (res6 (hv m c)) (fun t _ => flushed6 m c t) cover6),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.Ker

end
-- ==== Proof.Finite.lean ====
/- Finite coordinates: what the precondition says of an argument, and the squared distance to a corner. -/
module

public import proofs.«01_k».proof.Pre_finite
public import proofs.«01_k».proof.Proof.KerRun
public import Idealize.ShloMosaic.Lib.ReduceAll

@[expose] public section

noncomputable section

namespace Cert.Finite

open Idealize.ShloMosaic Cert.Cell Cert.Ker

/-- The shape conditions of the precondition. -/
instance facts : Cert.Pre_finite.Facts where
  bcast_S_S8192x3 := by decide
  reducesTo_S8192x3_S_d0_1 := by decide
  h_S_ := by decide
  bcast_S_S2048x3 := by decide
  reducesTo_S2048x3_S_d0_1 := by decide

/-- A vector of finite coordinates. -/
def Fin3 (x : V3) : Prop := ∀ k, ∃ r : ℝ, x k = (r : EReal)

theorem two_eq : two = ((2 : ℝ) : EReal) := by
  simp [two, Ideal.ofBits, Ideal.ieee, -EReal.coe_mul]; norm_num

theorem mtwo_eq : mtwo = ((-2 : ℝ) : EReal) := by
  simp [mtwo, Ideal.ofBits, Ideal.ieee, -EReal.coe_mul]; norm_num

/-- Multiplying the corner by minus two first, or subtracting twice the product, is the same. -/
theorem ksq_eq {p x : V3} (hp : Fin3 p) (hx : Fin3 x) : ksq p x = dsq p x := by
  choose r hr using hp
  choose s hs using hx
  have d1 : dot p p = ((∑ k, r k * r k : ℝ) : EReal) := by
    simp only [dot, hr, Fin.sum_univ_three]; rfl
  have d2 : dot p x = ((∑ k, r k * s k : ℝ) : EReal) := by
    simp only [dot, hr, hs, Fin.sum_univ_three]; rfl
  have d3 : dot x x = ((∑ k, s k * s k : ℝ) : EReal) := by
    simp only [dot, hs, Fin.sum_univ_three]; rfl
  have d4 : (dot p fun k => mtwo * x k) = ((∑ k, r k * (-2 * s k) : ℝ) : EReal) := by
    simp only [dot, hr, hs, mtwo_eq, Fin.sum_univ_three]; rfl
  unfold ksq dsq
  rw [d1, d2, d3, d4, two_eq]
  show (((∑ k, r k * r k) + (∑ k, r k * (-2 * s k)) + ∑ k, s k * s k : ℝ) : EReal) =
    (((∑ k, r k * r k) - 2 * (∑ k, r k * s k) + ∑ k, s k * s k : ℝ) : EReal)
  simp only [Fin.sum_univ_three]
  congr 1
  ring

/-- A number whose magnitude is below the infinity is real. -/
theorem real_of {x : E} (h : FloatOps.cmpf .olt (FloatOps.hostAbsf x) (FloatOps.ofBits .f32 0x7F800000#32 : E) = 1#1) :
    ∃ r : ℝ, x = (r : EReal) := by
  have ht : (FloatOps.ofBits .f32 0x7F800000#32 : E) = (⊤ : EReal) := Choice.top_eq
  have h' : BitVec.ofBool (decide (max x (-x) < (⊤ : EReal))) = 1#1 := by rw [← ht]; exact h
  have hlt : max x (-x) < (⊤ : EReal) := by
    by_contra hn
    rw [decide_eq_false hn] at h'
    exact absurd h' (by decide)
  induction x using EReal.rec with
  | bot => simp at hlt
  | top => simp at hlt
  | coe r => exact ⟨r, rfl⟩

open Cert.Pre_finite in
/-- The precondition says that every coordinate is real. -/
theorem read {x0 : FVec Ideal S8192x3 .f32} {x1 x2 x3 : FVec Ideal S2048x3 .f32}
    (h : Cert.Pre_finite.fn (F := Ideal) x0 x1 x2 x3 = fun _ => 1#1) :
    (∀ i, Fin3 fun k => x0 (ix2 i k)) ∧ (∀ i, Fin3 fun k => x1 (ix2 i k)) ∧ (∀ i, Fin3 fun k => x2 (ix2 i k)) ∧
      ∀ i, Fin3 fun k => x3 (ix2 i k) := by
  have : Subsingleton S_.Idx := ⟨fun a b => funext fun k => k.elim0⟩
  have e := congrFun h (fun k => k.elim0 : S_.Idx)
  dsimp only [fn, fn_part1, andi] at e
  obtain ⟨e012, e3⟩ := IntOp.andi_eq_one.mp e
  obtain ⟨e01, e2⟩ := IntOp.andi_eq_one.mp e012
  obtain ⟨e0, e1⟩ := IntOp.andi_eq_one.mp e01
  exact ⟨fun i k => real_of (Host.reduce_andi_all _ _ _ _ _ e0 _), fun i k => real_of (Host.reduce_andi_all _ _ _ _ _ e1 _),
    fun i k => real_of (Host.reduce_andi_all _ _ _ _ _ e2 _), fun i k => real_of (Host.reduce_andi_all _ _ _ _ _ e3 _)⟩

end Cert.Finite

end
-- ==== Proof.Agree.lean ====
/- The two programs' results agree wherever the coordinates are finite. -/
module

public import proofs.«01_k».proof.Defs
public import proofs.«01_k».proof.Proof.RefVal
public import proofs.«01_k».proof.Proof.Finite

@[expose] public section

noncomputable section

namespace Cert.Agree

open Idealize.ShloMosaic Idealize.ShloMosaic.TcCoe Idealize.SL.Sem Cert.Cell Cert.Choice

/-- The arguments of the two programs are the same, and finite. -/
structure Same (K : Ker.Vals) (W : Ref.Vals) : Prop where
  p : Ker.pP K = Ref.pP W
  a : Ker.pA K = Ref.pA W
  b : Ker.pB K = Ref.pB W
  c : Ker.pC K = Ref.pC W
  fp : ∀ i, Finite.Fin3 (Ker.pP K i)
  fa : ∀ l, Finite.Fin3 (Ker.pA K l)
  fb : ∀ l, Finite.Fin3 (Ker.pB K l)
  fc : ∀ l, Finite.Fin3 (Ker.pC K l)

variable {K : Ker.Vals} {W : Ref.Vals} (s : Same K W) (o : Ref.Out W)

include s o

/-- The thirteen numbers agree. -/
theorem kq_eq (i : Fin 8192) (l : Fin 2048) : Ker.kq K i l = Ref.q W (ix2 i l) := by
  rw [o.q, ← s.p, ← s.a, ← s.b, ← s.c]
  unfold Ker.kq
  rw [Finite.ksq_eq (s.fp i) (s.fa l), Finite.ksq_eq (s.fp i) (s.fb l), Finite.ksq_eq (s.fp i) (s.fc l)]
  rfl

/-- The distances agree. -/
theorem row_eq (i : Fin 8192) : clamp (Ker.kd K i) = Ref.row (Ref.dists W) i := by
  funext l
  show max (kdist (Ker.kq K i l)) zero = max (rdist (Ref.q W (ix2 i l))) zero
  rw [kq_eq s o, kdist_eq]

theorem first_row (i : Fin 8192) : First (Ref.row (Ref.dists W) i) (Ker.kj K i) := row_eq s o i ▸ first_spec _

theorem dmin_eq : Ref.dminOf (Ref.dists W) = Ker.res4 K := by
  funext y
  obtain ⟨i, rfl⟩ : ∃ i : Fin 8192, y = ix1 i := ⟨y 0, funext fun | ⟨0, _⟩ => rfl⟩
  show _ = rowMin (Ker.kd K i)
  rw [Ref.dmin_at, rowMin_eq, row_eq s o]

theorem amin_eq : Ref.aminOf (Ref.dists W) = Ker.res5 K := by
  funext y
  obtain ⟨i, rfl⟩ : ∃ i : Fin 8192, y = ix1 i := ⟨y 0, funext fun | ⟨0, _⟩ => rfl⟩
  exact Ref.amin_at _ i (first_row s o i)

theorem tsel_eq : Ref.takeOf (Ref.types W) (Ref.aminOf (Ref.dists W)) = Ker.res6 K := by
  funext y
  obtain ⟨i, rfl⟩ : ∃ i : Fin 8192, y = ix1 i := ⟨y 0, funext fun | ⟨0, _⟩ => rfl⟩
  rw [Ref.take_at _ (Ker.kj K) fun i => Ref.amin_at _ i (first_row s o i)]
  show ty (Ref.q W (ix2 i (Ker.kj K i))) = ty (Ker.kq K i (Ker.kj K i))
  rw [kq_eq s o]

omit s o

/-- The launches agree on the arguments: so do the contents after the host's operations. -/
theorem same_of {m : (ℓ : Loc KernelIdeal.nD KernelIdeal.τ KernelIdeal.sig) → Buf (Elt Ideal) ℓ}
    (pre : Cert.Pre_KernelIdeal_finite m) (c : Dev KernelIdeal.nD)
    (h0 : W (Proc.devRef .tc ReferenceIdeal.main_arg0) = m ((c.tc : Thread KernelIdeal.nD KernelIdeal.τ).loc KernelIdeal.main_arg0))
    (h1 : W (Proc.devRef .tc ReferenceIdeal.main_arg1) = m ((c.tc : Thread KernelIdeal.nD KernelIdeal.τ).loc KernelIdeal.main_arg1))
    (h2 : W (Proc.devRef .tc ReferenceIdeal.main_arg2) = m ((c.tc : Thread KernelIdeal.nD KernelIdeal.τ).loc KernelIdeal.main_arg2))
    (h3 : W (Proc.devRef .tc ReferenceIdeal.main_arg3) = m ((c.tc : Thread KernelIdeal.nD KernelIdeal.τ).loc KernelIdeal.main_arg3)) :
    Same (Ker.hv m c) W := by
  have k0 : Ker.hv m c (Proc.devRef .tc KernelIdeal.main_arg0) = _ := KernelIdeal.Gen.V_main_arg0 m c
  have k1 : Ker.hv m c (Proc.devRef .tc KernelIdeal.main_arg1) = _ := KernelIdeal.Gen.V_main_arg1 m c
  have k2 : Ker.hv m c (Proc.devRef .tc KernelIdeal.main_arg2) = _ := KernelIdeal.Gen.V_main_arg2 m c
  have k3 : Ker.hv m c (Proc.devRef .tc KernelIdeal.main_arg3) = _ := KernelIdeal.Gen.V_main_arg3 m c
  obtain ⟨f0, f1, f2, f3⟩ := Finite.read (pre c)
  constructor
  · unfold Ker.pP Ref.pP; rw [k0, h0]
  · unfold Ker.pA Ref.pA; rw [k1, h1]
  · unfold Ker.pB Ref.pB; rw [k2, h2]
  · unfold Ker.pC Ref.pC; rw [k3, h3]
  · unfold Ker.pP; rw [k0]; exact f0
  · unfold Ker.pA; rw [k1]; exact f1
  · unfold Ker.pB; rw [k2]; exact f2
  · unfold Ker.pC; rw [k3]; exact f3

/-- From equal finite arguments both programs run and end in the same three results. -/
theorem algebraic : Cert.algebraic_KernelIdeal_ReferenceIdeal_pre_finite := by
  intro m g m' g' pre hm
  refine ⟨fun c => Ker.res4 (Ker.hv m c), fun c => Ker.res5 (Ker.hv m c), fun c => Ker.res6 (Ker.hv m c), Ker.run m g,
    (θ_run _ _ _).mono (fun r h c => ?_) (Ref.run m' g')⟩
  obtain ⟨W, o, hb, h0, h1, h2, h3⟩ := h c
  obtain ⟨e0, e1, e2, e3⟩ := hm c
  have s : Same (Ker.hv m c) W := same_of pre c (h0.trans e0) (h1.trans e1) (h2.trans e2) (h3.trans e3)
  exact ⟨(hb _).trans (o.res.dmin.trans (dmin_eq s o)), (hb _).trans (o.res.amin.trans (amin_eq s o)),
    (hb _).trans (o.res.tsel.trans (tsel_eq s o)), (hb _).trans h0, (hb _).trans h1, (hb _).trans h2, (hb _).trans h3⟩

end Cert.Agree

end
-- ==== Proof.lean ====
module

public import proofs.«01_k».proof.Defs
public import proofs.«01_k».proof.Proof.Gen.Kernel.Frame
public import proofs.«01_k».proof.Proof.Gen.KernelIdeal.Frame
public import proofs.«01_k».proof.Proof.Agree

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Finite.facts,
    fun m ρ _ => Cert.Kernel.Gen.frame m ρ, fun m ρ _ => Cert.KernelIdeal.Gen.frame m ρ,
    fun m ρ _ => Cert.KernelIdeal.Gen.frame m ρ,
    fun m ρ _ => Cert.Ref.frame m ρ, fun m ρ _ => Cert.Ref.frame m ρ, trivial, Cert.Agree.algebraic⟩

end Cert.Proof

end
